-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S16x4x64x4096 : Shape := ⟨4, ![16, 4, 64, 4096]⟩
abbrev S4x64x4096 : Shape := ⟨3, ![4, 64, 4096]⟩
abbrev S2048x512 : Shape := ⟨2, ![2048, 512]⟩
abbrev S4x256x512 : Shape := ⟨3, ![4, 256, 512]⟩
abbrev S8x4 : Shape := ⟨2, ![8, 4]⟩
abbrev S4 : Shape := ⟨1, ![4]⟩
abbrev S_ : Shape := ⟨0, ![]⟩
abbrev S1x64x4096 : Shape := ⟨3, ![1, 64, 4096]⟩
abbrev S64x4096 : Shape := ⟨2, ![64, 4096]⟩
abbrev S1x1x64x4096 : Shape := ⟨4, ![1, 1, 64, 4096]⟩
abbrev S1x1 : Shape := ⟨2, ![1, 1]⟩
abbrev S1x4x64x4096 : Shape := ⟨4, ![1, 4, 64, 4096]⟩
abbrev S256x512 : Shape := ⟨2, ![256, 512]⟩
abbrev S1x256x512 : Shape := ⟨3, ![1, 256, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S16x4x64x4096, .fp8e4m3⟩
  | .local _ .vmem, ⟨1, _⟩ => ⟨S4x64x4096, .f32⟩
  | .local _ .vmem, ⟨2, _⟩ => ⟨S2048x512, .f32⟩
  | .local _ .vmem, ⟨3, _⟩ => ⟨S4096x512, .fp8e5m2⟩
  | .local _ .vmem, ⟨4, _⟩ => ⟨S4x256x512, .f32⟩
  | .local _ .smem, ⟨0, _⟩ => ⟨S1, .f32⟩
  | .local _ .smem, ⟨1, _⟩ => ⟨S1, .f32⟩
  | _, _ => ⟨S256x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 139 → Bool
  | ⟨i, _⟩ => dmaSemScopedAt i

abbrev sig : RefSig :=
  (ofTc nBuf bufTy 1 139 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_26 : BitVec 32 := 1#32
  let v30 : BitVec 32 := Scalar.muli v5 c1_i32_26
  let v31 : BitVec 32 := Scalar.addi c0_i32_27 v30
  v31.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v32 : BitVec 32 := Scalar.muli v7 c1_i32_29
  let v33 : BitVec 32 := Scalar.addi c0_i32_30 v32
  v33.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v43 : Index := Scalar.indexCast v2
  let c0_40 : Index := 0#32
  let c0_41 : Index := 0#32
  let c0_42 : Index := 0#32
  ![v43.toNat, 0, 0, 0]
def k0_off2 (d0 : Dev nD) (c0_i32_44 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_43 : BitVec 32 := 16#32
  let v47 : BitVec 32 := Scalar.addi v2 c16_i32_43
  let v48 : BitVec 32 := Scalar.addi v47 c0_i32_44
  let c16_i32_45 : BitVec 32 := 16#32
  let v49 : BitVec 32 := Scalar.remsi v48 c16_i32_45
  let c0_i32_47 : BitVec 32 := 0#32
  let c0_i32_54 : BitVec 32 := 0#32
  let c0_i32_55 : BitVec 32 := 0#32
  ![v49.toNat, 0, 0, 0]
def k0_off2_at (r : Fin 16) : BitVec 32 :=
  if r.val < 8 then
    if r.val < 4 then
      if r.val < 2 then
        if r.val < 1 then
          0#32
        else
          4294967295#32
      else
        if r.val < 3 then
          1#32
        else
          4294967294#32
    else
      if r.val < 6 then
        if r.val < 5 then
          2#32
        else
          4294967293#32
      else
        if r.val < 7 then
          3#32
        else
          4294967292#32
  else
    if r.val < 12 then
      if r.val < 10 then
        if r.val < 9 then
          4#32
        else
          4294967291#32
      else
        if r.val < 11 then
          5#32
        else
          4294967290#32
    else
      if r.val < 14 then
        if r.val < 13 then
          6#32
        else
          4294967289#32
      else
        if r.val < 15 then
          7#32
        else
          4294967288#32
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_52 : BitVec 32 := 1#32
  let v50 : BitVec 32 := Scalar.muli v7 c1_i32_52
  let v51 : BitVec 32 := Scalar.addi c0_i32_53 v50
  v51.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_67 : BitVec 32 := 1#32
  let v63 : BitVec 32 := Scalar.muli v5 c1_i32_67
  let v64 : BitVec 32 := Scalar.addi c0_i32_68 v63
  v64.toNat
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v82 : Index := Scalar.indexCast v2
  let c1_81 : Index := 1#32
  let c0_82 : Index := 0#32
  let c0_83 : Index := 0#32
  ![v82.toNat, 1, 0, 0]
def k0_off4 (d0 : Dev nD) (c0_i32_85 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_84 : BitVec 32 := 16#32
  let v86 : BitVec 32 := Scalar.addi v2 c16_i32_84
  let v87 : BitVec 32 := Scalar.addi v86 c0_i32_85
  let c16_i32_86 : BitVec 32 := 16#32
  let v88 : BitVec 32 := Scalar.remsi v87 c16_i32_86
  let c1_i32_88 : BitVec 32 := 1#32
  let c0_i32_95 : BitVec 32 := 0#32
  let c0_i32_96 : BitVec 32 := 0#32
  ![v88.toNat, 1, 0, 0]
def k0_off4_at (r : Fin 16) : BitVec 32 :=
  if r.val < 8 then
    if r.val < 4 then
      if r.val < 2 then
        if r.val < 1 then
          0#32
        else
          4294967295#32
      else
        if r.val < 3 then
          1#32
        else
          4294967294#32
    else
      if r.val < 6 then
        if r.val < 5 then
          2#32
        else
          4294967293#32
      else
        if r.val < 7 then
          3#32
        else
          4294967292#32
  else
    if r.val < 12 then
      if r.val < 10 then
        if r.val < 9 then
          4#32
        else
          4294967291#32
      else
        if r.val < 11 then
          5#32
        else
          4294967290#32
    else
      if r.val < 14 then
        if r.val < 13 then
          6#32
        else
          4294967289#32
      else
        if r.val < 15 then
          7#32
        else
          4294967288#32
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_93 : BitVec 32 := 1#32
  let v89 : BitVec 32 := Scalar.muli v7 c1_i32_93
  let v90 : BitVec 32 := Scalar.addi c0_i32_94 v89
  v90.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_108 : BitVec 32 := 1#32
  let v102 : BitVec 32 := Scalar.muli v5 c1_i32_108
  let v103 : BitVec 32 := Scalar.addi c0_i32_109 v102
  v103.toNat
def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v121 : Index := Scalar.indexCast v2
  let c2_122 : Index := 2#32
  let c0_123 : Index := 0#32
  let c0_124 : Index := 0#32
  ![v121.toNat, 2, 0, 0]
def k0_off6 (d0 : Dev nD) (c0_i32_126 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_125 : BitVec 32 := 16#32
  let v125 : BitVec 32 := Scalar.addi v2 c16_i32_125
  let v126 : BitVec 32 := Scalar.addi v125 c0_i32_126
  let c16_i32_127 : BitVec 32 := 16#32
  let v127 : BitVec 32 := Scalar.remsi v126 c16_i32_127
  let c2_i32_129 : BitVec 32 := 2#32
  let c0_i32_136 : BitVec 32 := 0#32
  let c0_i32_137 : BitVec 32 := 0#32
  ![v127.toNat, 2, 0, 0]
def k0_off6_at (r : Fin 16) : BitVec 32 :=
  if r.val < 8 then
    if r.val < 4 then
      if r.val < 2 then
        if r.val < 1 then
          0#32
        else
          4294967295#32
      else
        if r.val < 3 then
          1#32
        else
          4294967294#32
    else
      if r.val < 6 then
        if r.val < 5 then
          2#32
        else
          4294967293#32
      else
        if r.val < 7 then
          3#32
        else
          4294967292#32
  else
    if r.val < 12 then
      if r.val < 10 then
        if r.val < 9 then
          4#32
        else
          4294967291#32
      else
        if r.val < 11 then
          5#32
        else
          4294967290#32
    else
      if r.val < 14 then
        if r.val < 13 then
          6#32
        else
          4294967289#32
      else
        if r.val < 15 then
          7#32
        else
          8#32
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_134 : BitVec 32 := 1#32
  let v128 : BitVec 32 := Scalar.muli v7 c1_i32_134
  let v129 : BitVec 32 := Scalar.addi c0_i32_135 v128
  v129.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_149 : BitVec 32 := 1#32
  let v141 : BitVec 32 := Scalar.muli v5 c1_i32_149
  let v142 : BitVec 32 := Scalar.addi c0_i32_150 v141
  v142.toNat
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v160 : Index := Scalar.indexCast v2
  let c3_163 : Index := 3#32
  let c0_164 : Index := 0#32
  let c0_165 : Index := 0#32
  ![v160.toNat, 3, 0, 0]
def k0_off8 (d0 : Dev nD) (c0_i32_167 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_166 : BitVec 32 := 16#32
  let v164 : BitVec 32 := Scalar.addi v2 c16_i32_166
  let v165 : BitVec 32 := Scalar.addi v164 c0_i32_167
  let c16_i32_168 : BitVec 32 := 16#32
  let v166 : BitVec 32 := Scalar.remsi v165 c16_i32_168
  let c3_i32_170 : BitVec 32 := 3#32
  let c0_i32_177 : BitVec 32 := 0#32
  let c0_i32_178 : BitVec 32 := 0#32
  ![v166.toNat, 3, 0, 0]
def k0_off8_at (r : Fin 16) : BitVec 32 :=
  if r.val < 8 then
    if r.val < 4 then
      if r.val < 2 then
        if r.val < 1 then
          0#32
        else
          4294967295#32
      else
        if r.val < 3 then
          1#32
        else
          4294967294#32
    else
      if r.val < 6 then
        if r.val < 5 then
          2#32
        else
          4294967293#32
      else
        if r.val < 7 then
          3#32
        else
          4294967292#32
  else
    if r.val < 12 then
      if r.val < 10 then
        if r.val < 9 then
          4#32
        else
          4294967291#32
      else
        if r.val < 11 then
          5#32
        else
          4294967290#32
    else
      if r.val < 14 then
        if r.val < 13 then
          6#32
        else
          4294967289#32
      else
        if r.val < 15 then
          7#32
        else
          8#32
def k0_dev9 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_175 : BitVec 32 := 1#32
  let v167 : BitVec 32 := Scalar.muli v7 c1_i32_175
  let v168 : BitVec 32 := Scalar.addi c0_i32_176 v167
  v168.toNat
def k0_dev10 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_190 : BitVec 32 := 1#32
  let v180 : BitVec 32 := Scalar.muli v5 c1_i32_190
  let v181 : BitVec 32 := Scalar.addi c0_i32_191 v180
  v181.toNat
def k0_off9 (d0 : Dev nD) (c0_i32_211 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_210 : BitVec 32 := 16#32
  let v206 : BitVec 32 := Scalar.addi v2 c16_i32_210
  let v207 : BitVec 32 := Scalar.addi v206 c0_i32_211
  let c16_i32_212 : BitVec 32 := 16#32
  let v208 : BitVec 32 := Scalar.remsi v207 c16_i32_212
  let v209 : Index := Scalar.indexCast v208
  let c0_213 : Index := 0#32
  let c0_214 : Index := 0#32
  let c0_215 : Index := 0#32
  ![v209.toNat, 0, 0, 0]
def k0_off9_at (r : Fin 16) : BitVec 32 :=
  if r.val < 8 then
    if r.val < 4 then
      if r.val < 2 then
        if r.val < 1 then
          0#32
        else
          4294967295#32
      else
        if r.val < 3 then
          1#32
        else
          4294967294#32
    else
      if r.val < 6 then
        if r.val < 5 then
          2#32
        else
          4294967293#32
      else
        if r.val < 7 then
          3#32
        else
          4294967292#32
  else
    if r.val < 12 then
      if r.val < 10 then
        if r.val < 9 then
          4#32
        else
          4294967291#32
      else
        if r.val < 11 then
          5#32
        else
          4294967290#32
    else
      if r.val < 14 then
        if r.val < 13 then
          6#32
        else
          4294967289#32
      else
        if r.val < 15 then
          7#32
        else
          8#32
def k0_off10 (d0 : Dev nD) (c0_i32_211 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_210 : BitVec 32 := 16#32
  let v206 : BitVec 32 := Scalar.addi v2 c16_i32_210
  let v207 : BitVec 32 := Scalar.addi v206 c0_i32_211
  let c16_i32_212 : BitVec 32 := 16#32
  let v208 : BitVec 32 := Scalar.remsi v207 c16_i32_212
  let c256_i32 : BitVec 32 := 256#32
  let v221 : BitVec 32 := Scalar.muli v208 c256_i32
  let c0_i32_223 : BitVec 32 := 0#32
  ![v221.toNat, 0]
def k0_off10_at (r : Fin 16) : BitVec 32 :=
  if r.val < 8 then
    if r.val < 4 then
      if r.val < 2 then
        if r.val < 1 then
          0#32
        else
          4294967295#32
      else
        if r.val < 3 then
          1#32
        else
          4294967294#32
    else
      if r.val < 6 then
        if r.val < 5 then
          2#32
        else
          4294967293#32
      else
        if r.val < 7 then
          3#32
        else
          4294967292#32
  else
    if r.val < 12 then
      if r.val < 10 then
        if r.val < 9 then
          4#32
        else
          4294967291#32
      else
        if r.val < 11 then
          5#32
        else
          4294967290#32
    else
      if r.val < 14 then
        if r.val < 13 then
          6#32
        else
          4294967289#32
      else
        if r.val < 15 then
          7#32
        else
          8#32
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_246 : BitVec 32 := 1#32
  let v238 : BitVec 32 := Scalar.muli v7 c1_i32_246
  let v239 : BitVec 32 := Scalar.addi c0_i32_247 v238
  v239.toNat
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_273 : BitVec 32 := 1#32
  let v259 : BitVec 32 := Scalar.muli v5 c1_i32_273
  let v260 : BitVec 32 := Scalar.addi c0_i32_274 v259
  v260.toNat
def k0_dev13 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_300 : BitVec 32 := 1#32
  let v280 : BitVec 32 := Scalar.muli v7 c1_i32_300
  let v281 : BitVec 32 := Scalar.addi c0_i32_301 v280
  v281.toNat
def k0_dev14 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_327 : BitVec 32 := 1#32
  let v301 : BitVec 32 := Scalar.muli v5 c1_i32_327
  let v302 : BitVec 32 := Scalar.addi c0_i32_328 v301
  v302.toNat
def k0_dev15 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_354 : BitVec 32 := 1#32
  let v322 : BitVec 32 := Scalar.muli v7 c1_i32_354
  let v323 : BitVec 32 := Scalar.addi c0_i32_355 v322
  v323.toNat
def k0_dev16 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_381 : BitVec 32 := 1#32
  let v343 : BitVec 32 := Scalar.muli v5 c1_i32_381
  let v344 : BitVec 32 := Scalar.addi c0_i32_382 v343
  v344.toNat
def k0_dev17 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_408 : BitVec 32 := 1#32
  let v364 : BitVec 32 := Scalar.muli v7 c1_i32_408
  let v365 : BitVec 32 := Scalar.addi c0_i32_409 v364
  v365.toNat
def k0_dev18 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_435 : BitVec 32 := 1#32
  let v385 : BitVec 32 := Scalar.muli v5 c1_i32_435
  let v386 : BitVec 32 := Scalar.addi c0_i32_436 v385
  v386.toNat
def k0_dev19 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_497 : BitVec 32 := 1#32
  let v448 : BitVec 32 := Scalar.muli v7 c1_i32_497
  let v449 : BitVec 32 := Scalar.addi c0_i32_498 v448
  v449.toNat
def k0_dev20 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_524 : BitVec 32 := 1#32
  let v469 : BitVec 32 := Scalar.muli v5 c1_i32_524
  let v470 : BitVec 32 := Scalar.addi c0_i32_525 v469
  v470.toNat
def k0_dev21 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_551 : BitVec 32 := 1#32
  let v490 : BitVec 32 := Scalar.muli v7 c1_i32_551
  let v491 : BitVec 32 := Scalar.addi c0_i32_552 v490
  v491.toNat
def k0_dev22 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_578 : BitVec 32 := 1#32
  let v511 : BitVec 32 := Scalar.muli v5 c1_i32_578
  let v512 : BitVec 32 := Scalar.addi c0_i32_579 v511
  v512.toNat
def k0_dev23 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_605 : BitVec 32 := 1#32
  let v532 : BitVec 32 := Scalar.muli v7 c1_i32_605
  let v533 : BitVec 32 := Scalar.addi c0_i32_606 v532
  v533.toNat
def k0_dev24 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_632 : BitVec 32 := 1#32
  let v553 : BitVec 32 := Scalar.muli v5 c1_i32_632
  let v554 : BitVec 32 := Scalar.addi c0_i32_633 v553
  v554.toNat
def k0_dev25 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_659 : BitVec 32 := 1#32
  let v574 : BitVec 32 := Scalar.muli v7 c1_i32_659
  let v575 : BitVec 32 := Scalar.addi c0_i32_660 v574
  v575.toNat
def k0_dev26 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_686 : BitVec 32 := 1#32
  let v595 : BitVec 32 := Scalar.muli v5 c1_i32_686
  let v596 : BitVec 32 := Scalar.addi c0_i32_687 v595
  v596.toNat
def k0_dev27 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_753 : BitVec 32 := 1#32
  let v663 : BitVec 32 := Scalar.muli v7 c1_i32_753
  let v664 : BitVec 32 := Scalar.addi c0_i32_754 v663
  v664.toNat
def k0_dev28 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_780 : BitVec 32 := 1#32
  let v684 : BitVec 32 := Scalar.muli v5 c1_i32_780
  let v685 : BitVec 32 := Scalar.addi c0_i32_781 v684
  v685.toNat
def k0_dev29 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_807 : BitVec 32 := 1#32
  let v705 : BitVec 32 := Scalar.muli v7 c1_i32_807
  let v706 : BitVec 32 := Scalar.addi c0_i32_808 v705
  v706.toNat
def k0_dev30 (d0 : Dev nD) : Nat :=
  let c0_i32_835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_834 : BitVec 32 := 1#32
  let v726 : BitVec 32 := Scalar.muli v5 c1_i32_834
  let v727 : BitVec 32 := Scalar.addi c0_i32_835 v726
  v727.toNat
def k0_dev31 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_861 : BitVec 32 := 1#32
  let v747 : BitVec 32 := Scalar.muli v7 c1_i32_861
  let v748 : BitVec 32 := Scalar.addi c0_i32_862 v747
  v748.toNat
def k0_dev32 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_888 : BitVec 32 := 1#32
  let v768 : BitVec 32 := Scalar.muli v5 c1_i32_888
  let v769 : BitVec 32 := Scalar.addi c0_i32_889 v768
  v769.toNat
def k0_dev33 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_915 : BitVec 32 := 1#32
  let v789 : BitVec 32 := Scalar.muli v7 c1_i32_915
  let v790 : BitVec 32 := Scalar.addi c0_i32_916 v789
  v790.toNat
def k0_dev34 (d0 : Dev nD) : Nat :=
  let c0_i32_943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_942 : BitVec 32 := 1#32
  let v810 : BitVec 32 := Scalar.muli v5 c1_i32_942
  let v811 : BitVec 32 := Scalar.addi c0_i32_943 v810
  v811.toNat
def k0_dev35 (d0 : Dev nD) : Nat :=
  let c0_i32_1014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1013 : BitVec 32 := 1#32
  let v883 : BitVec 32 := Scalar.muli v7 c1_i32_1013
  let v884 : BitVec 32 := Scalar.addi c0_i32_1014 v883
  v884.toNat
def k0_dev36 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1040 : BitVec 32 := 1#32
  let v904 : BitVec 32 := Scalar.muli v5 c1_i32_1040
  let v905 : BitVec 32 := Scalar.addi c0_i32_1041 v904
  v905.toNat
def k0_dev37 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1067 : BitVec 32 := 1#32
  let v925 : BitVec 32 := Scalar.muli v7 c1_i32_1067
  let v926 : BitVec 32 := Scalar.addi c0_i32_1068 v925
  v926.toNat
def k0_dev38 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1094 : BitVec 32 := 1#32
  let v946 : BitVec 32 := Scalar.muli v5 c1_i32_1094
  let v947 : BitVec 32 := Scalar.addi c0_i32_1095 v946
  v947.toNat
def k0_dev39 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1121 : BitVec 32 := 1#32
  let v967 : BitVec 32 := Scalar.muli v7 c1_i32_1121
  let v968 : BitVec 32 := Scalar.addi c0_i32_1122 v967
  v968.toNat
def k0_dev40 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1148 : BitVec 32 := 1#32
  let v988 : BitVec 32 := Scalar.muli v5 c1_i32_1148
  let v989 : BitVec 32 := Scalar.addi c0_i32_1149 v988
  v989.toNat
def k0_dev41 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1175 : BitVec 32 := 1#32
  let v1009 : BitVec 32 := Scalar.muli v7 c1_i32_1175
  let v1010 : BitVec 32 := Scalar.addi c0_i32_1176 v1009
  v1010.toNat
def k0_dev42 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1202 : BitVec 32 := 1#32
  let v1030 : BitVec 32 := Scalar.muli v5 c1_i32_1202
  let v1031 : BitVec 32 := Scalar.addi c0_i32_1203 v1030
  v1031.toNat
def k0_dev43 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1273 : BitVec 32 := 1#32
  let v1103 : BitVec 32 := Scalar.muli v7 c1_i32_1273
  let v1104 : BitVec 32 := Scalar.addi c0_i32_1274 v1103
  v1104.toNat
def k0_dev44 (d0 : Dev nD) : Nat :=
  let c0_i32_1301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1300 : BitVec 32 := 1#32
  let v1124 : BitVec 32 := Scalar.muli v5 c1_i32_1300
  let v1125 : BitVec 32 := Scalar.addi c0_i32_1301 v1124
  v1125.toNat
def k0_dev45 (d0 : Dev nD) : Nat :=
  let c0_i32_1328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1327 : BitVec 32 := 1#32
  let v1145 : BitVec 32 := Scalar.muli v7 c1_i32_1327
  let v1146 : BitVec 32 := Scalar.addi c0_i32_1328 v1145
  v1146.toNat
def k0_dev46 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1354 : BitVec 32 := 1#32
  let v1166 : BitVec 32 := Scalar.muli v5 c1_i32_1354
  let v1167 : BitVec 32 := Scalar.addi c0_i32_1355 v1166
  v1167.toNat
def k0_dev47 (d0 : Dev nD) : Nat :=
  let c0_i32_1382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1381 : BitVec 32 := 1#32
  let v1187 : BitVec 32 := Scalar.muli v7 c1_i32_1381
  let v1188 : BitVec 32 := Scalar.addi c0_i32_1382 v1187
  v1188.toNat
def k0_dev48 (d0 : Dev nD) : Nat :=
  let c0_i32_1409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1408 : BitVec 32 := 1#32
  let v1208 : BitVec 32 := Scalar.muli v5 c1_i32_1408
  let v1209 : BitVec 32 := Scalar.addi c0_i32_1409 v1208
  v1209.toNat
def k0_dev49 (d0 : Dev nD) : Nat :=
  let c0_i32_1436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1435 : BitVec 32 := 1#32
  let v1229 : BitVec 32 := Scalar.muli v7 c1_i32_1435
  let v1230 : BitVec 32 := Scalar.addi c0_i32_1436 v1229
  v1230.toNat
def k0_dev50 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1462 : BitVec 32 := 1#32
  let v1250 : BitVec 32 := Scalar.muli v5 c1_i32_1462
  let v1251 : BitVec 32 := Scalar.addi c0_i32_1463 v1250
  v1251.toNat
def k0_dev51 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1533 : BitVec 32 := 1#32
  let v1323 : BitVec 32 := Scalar.muli v7 c1_i32_1533
  let v1324 : BitVec 32 := Scalar.addi c0_i32_1534 v1323
  v1324.toNat
def k0_dev52 (d0 : Dev nD) : Nat :=
  let c0_i32_1561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1560 : BitVec 32 := 1#32
  let v1344 : BitVec 32 := Scalar.muli v5 c1_i32_1560
  let v1345 : BitVec 32 := Scalar.addi c0_i32_1561 v1344
  v1345.toNat
def k0_dev53 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1587 : BitVec 32 := 1#32
  let v1365 : BitVec 32 := Scalar.muli v7 c1_i32_1587
  let v1366 : BitVec 32 := Scalar.addi c0_i32_1588 v1365
  v1366.toNat
def k0_dev54 (d0 : Dev nD) : Nat :=
  let c0_i32_1615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1614 : BitVec 32 := 1#32
  let v1386 : BitVec 32 := Scalar.muli v5 c1_i32_1614
  let v1387 : BitVec 32 := Scalar.addi c0_i32_1615 v1386
  v1387.toNat
def k0_dev55 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1641 : BitVec 32 := 1#32
  let v1407 : BitVec 32 := Scalar.muli v7 c1_i32_1641
  let v1408 : BitVec 32 := Scalar.addi c0_i32_1642 v1407
  v1408.toNat
def k0_dev56 (d0 : Dev nD) : Nat :=
  let c0_i32_1669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1668 : BitVec 32 := 1#32
  let v1428 : BitVec 32 := Scalar.muli v5 c1_i32_1668
  let v1429 : BitVec 32 := Scalar.addi c0_i32_1669 v1428
  v1429.toNat
def k0_dev57 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1695 : BitVec 32 := 1#32
  let v1449 : BitVec 32 := Scalar.muli v7 c1_i32_1695
  let v1450 : BitVec 32 := Scalar.addi c0_i32_1696 v1449
  v1450.toNat
def k0_dev58 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1722 : BitVec 32 := 1#32
  let v1470 : BitVec 32 := Scalar.muli v5 c1_i32_1722
  let v1471 : BitVec 32 := Scalar.addi c0_i32_1723 v1470
  v1471.toNat
def k0_dev59 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1793 : BitVec 32 := 1#32
  let v1543 : BitVec 32 := Scalar.muli v7 c1_i32_1793
  let v1544 : BitVec 32 := Scalar.addi c0_i32_1794 v1543
  v1544.toNat
def k0_dev60 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1835 : BitVec 32 := 1#32
  let v1575 : BitVec 32 := Scalar.muli v7 c1_i32_1835
  let v1576 : BitVec 32 := Scalar.addi c0_i32_1836 v1575
  v1576.toNat
def k0_dev61 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1892 : BitVec 32 := 1#32
  let v1618 : BitVec 32 := Scalar.muli v5 c1_i32_1892
  let v1619 : BitVec 32 := Scalar.addi c0_i32_1893 v1618
  v1619.toNat
def k0_dev62 (d0 : Dev nD) : Nat :=
  let c0_i32_1935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1934 : BitVec 32 := 1#32
  let v1650 : BitVec 32 := Scalar.muli v5 c1_i32_1934
  let v1651 : BitVec 32 := Scalar.addi c0_i32_1935 v1650
  v1651.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Protocol.lean ====
/-
The protocol of the kernel: a ring of sixteen devices passes the pieces of every device's block round in both
directions. This module numbers the sixty messages a device sends (and the sixty it receives), names the semaphores
they complete on, states what each completion hands over (the schedule), and orders the waits (the levels).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.SL.BI.BigOpNat

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the ring's rounds, the local transfers' counters -/

abbrev UB : Type := URounds (GSem nD τ sig) Bool
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.inl.trans (embR (A := UR sig nD τ) (B := UC))
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device after `c`. -/
def nxt (c : Dev nD) : Dev nD := ⟨(c.val + 1) % 16, Nat.mod_lt _ (by decide)⟩
set_option backward.proofsInPublic true in
/-- The device before `c`. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-! ## The messages, by number: message `i` is sent, received and waited for in this order -/

/-- How many devices message `i`'s piece has travelled past when it is sent. -/
def hop (i : ℕ) : ℕ := if i < 56 then i / 8 else 7
/-- Whether message `i` travels clockwise. -/
def cw (i : ℕ) : Bool := if i < 56 then i % 2 == 0 else decide (i < 58)
/-- Which quarter of its block message `i` carries. -/
def pc (i : ℕ) : ℕ := if i < 56 then i / 2 % 4 else i - 56

/-- The number of message `i`'s send semaphore, -/
def sIdx (i : ℕ) : ℕ := (if cw i then 2 else 66) + 4 * hop i + pc i
/-- and of its receive semaphore. -/
def rIdx (i : ℕ) : ℕ := (if cw i then 34 else 98) + 4 * hop i + pc i

/-- The slot (the number of the device the piece comes from) of the message `i` that device `c` sends. -/
def sslot (c : Dev nD) (i : ℕ) : ℕ := if cw i then (c.val + 16 - hop i) % 16 else (c.val + hop i) % 16
/-- The slot of the message `i` that device `c` receives; the numbers from 60 on stand for `c`'s own pieces. -/
def rslot (c : Dev nD) (i : ℕ) : ℕ :=
  if i < 60 then (if cw i then (c.val + 15 - hop i) % 16 else (c.val + hop i + 1) % 16) else c.val
/-- The quarter of the piece numbered `i` as `rslot` numbers them. -/
def rpc (i : ℕ) : ℕ := if i < 60 then pc i else i - 60
/-- The device message `i` of device `c` goes to, -/
def nb (c : Dev nD) (i : ℕ) : Dev nD := if cw i then nxt c else prv c
/-- and the one device `c` gets its message `i` from. -/
def sb (c : Dev nD) (i : ℕ) : Dev nD := if cw i then prv c else nxt c

/-- The message that forwards the received message `j` (60: none does). -/
def succ (j : ℕ) : ℕ :=
  if j < 48 then j + 8 else if j = 48 then 56 else if j = 50 then 57 else if j = 53 then 58 else if j = 55 then 59 else 60

theorem nb_sb (c : Dev nD) (i : ℕ) : nb (sb c i) i = c := by
  unfold nb sb; cases cw i <;> simp [prv_nxt, nxt_prv]
theorem sb_nb (c : Dev nD) (i : ℕ) : sb (nb c i) i = c := by
  unfold nb sb; cases cw i <;> simp [prv_nxt, nxt_prv]

/-- What device `c` sends as message `i` is what its neighbour receives as message `i`. -/
theorem rslot_nb (c : Dev nD) (i : ℕ) (hi : i < 60) : rslot (nb c i) i = sslot c i := by
  unfold rslot nb sslot nxt prv; rw [if_pos hi]
  have h7 : hop i ≤ 7 := by unfold hop; split <;> omega
  have hc : c.val < 16 := c.isLt
  cases cw i
  · simp only [Bool.false_eq_true, if_false]; omega
  · simp only [if_true]; omega
theorem sslot_sb (c : Dev nD) (i : ℕ) (hi : i < 60) : sslot (sb c i) i = rslot c i := by
  rw [← rslot_nb _ i hi, nb_sb]

/-- A forwarded message is of the piece received. -/
theorem sslot_succ : ∀ c : Dev nD, ∀ j < 60, succ j < 60 → sslot c (succ j) = rslot c j ∧ pc (succ j) = pc j ∧ 8 ≤ succ j := by decide +kernel
theorem succ_inj : ∀ j < 60, ∀ j' < 60, succ j < 60 → succ j = succ j' → j = j' := by decide +kernel
theorem succ_surj : ∀ i < 60, 8 ≤ i → ∃ j < 60, succ j = i := by decide +kernel
theorem sslot_own : ∀ c : Dev nD, ∀ i < 8, sslot c i = c.val ∧ pc i = i / 2 := by decide +kernel
theorem succ_gt : ∀ j < 60, 8 ≤ succ j := by decide +kernel
theorem pc_lt : ∀ i < 60, pc i < 4 := by decide +kernel
theorem sIdx_lt : ∀ i < 60, 2 ≤ sIdx i ∧ sIdx i < 130 := by decide +kernel
theorem rIdx_lt : ∀ i < 60, 2 ≤ rIdx i ∧ rIdx i < 130 := by decide +kernel

/-- The sixty pieces received and the four own ones are the sixty-four pieces, each once. -/
theorem piece_inj : ∀ c : Dev nD, ∀ i < 64, ∀ j < 64, rslot c i = rslot c j → rpc i = rpc j → i = j := by decide +kernel
theorem piece_surj : ∀ c : Dev nD, ∀ s < 16, ∀ p < 4, ∃ i < 64, rslot c i = s ∧ rpc i = p := by decide +kernel

/-! ## The semaphores and the cells -/

/-- The runtime's barrier semaphore (unscoped). -/
abbrev barS : Sem sig := (SemArray.scalar (sig.barrier 0 rfl) : Sems sig S_).sem
set_option backward.proofsInPublic true in
/-- Message `i`'s send semaphore, -/
def sS (i : ℕ) : DmaSem sig := (⟨sIdx i % 139, Nat.mod_lt _ (by decide)⟩ : Fin 139)
set_option backward.proofsInPublic true in
/-- and its receive semaphore. -/
def rS (i : ℕ) : DmaSem sig := (⟨rIdx i % 139, Nat.mod_lt _ (by decide)⟩ : Fin 139)

abbrev barCell (c : Dev nD) : GSem nD τ sig := ((c : Thread nD τ), .reg barS)
abbrev sCell (c : Dev nD) (i : ℕ) : GSem nD τ sig := ((c : Thread nD τ), .dma (sS i))
abbrev rCell (c : Dev nD) (i : ℕ) : GSem nD τ sig := ((c : Thread nD τ), .dma (rS i))

/-- A device's cells: its barrier's, its sixty send ones, its sixty receive ones. -/
def csem (k : Fin 121) : SemLoc sig :=
  if k.val = 0 then .reg barS else if k.val < 61 then .dma (sS (k.val - 1)) else .dma (rS (k.val - 61))
def kcell (ck : Dev nD × Fin 121) : GSem nD τ sig := ((ck.1 : Thread nD τ), csem ck.2)

theorem csem_injective : Function.Injective csem := by
  have h : ∀ a b : Fin 121, csem a = csem b → a = b := by decide +kernel
  exact fun a b => h a b
theorem kcell_injective : Function.Injective kcell := by
  rintro ⟨c, k⟩ ⟨c', k'⟩ h
  have h1 : (c : Thread nD τ) = c' := congrArg Prod.fst h
  have h2 : csem k = csem k' := congrArg Prod.snd h
  have h3 : c = c' := congrArg Prod.fst h1
  rw [h3, csem_injective h2]
def ringCells : Finset (GSem nD τ sig) := Finset.univ.map ⟨kcell, kcell_injective⟩

theorem bar_mem (c : Dev nD) : barCell c ∈ ringCells :=
  Finset.mem_map.mpr ⟨(c, 0), Finset.mem_univ _, rfl⟩
theorem s_mem (c : Dev nD) (i : ℕ) (hi : i < 60) : sCell c i ∈ ringCells := by
  refine Finset.mem_map.mpr ⟨(c, ⟨i + 1, by omega⟩), Finset.mem_univ _, ?_⟩
  show ((c : Thread nD τ), csem ⟨i + 1, _⟩) = _
  unfold csem; dsimp only; rw [if_neg (by omega), if_pos (by omega), Nat.add_sub_cancel]
theorem r_mem (c : Dev nD) (i : ℕ) (hi : i < 60) : rCell c i ∈ ringCells := by
  refine Finset.mem_map.mpr ⟨(c, ⟨i + 61, by omega⟩), Finset.mem_univ _, ?_⟩
  show ((c : Thread nD τ), csem ⟨i + 61, _⟩) = _
  unfold csem; dsimp only; rw [if_neg (by omega), if_neg (by omega), Nat.add_sub_cancel]

/-! ## The gathered buffer: its pieces and its contents -/

/-- The gathered buffer. -/
abbrev xgM : Memref sig .tc .vmem S16x4x64x4096 .fp8e4m3 := Memref.whole cc0_scratch0
/-- The elements of piece `(s, p)`: quarter `p` of device `s`'s block. -/
def pieceSet (s p : ℕ) : Finset S16x4x64x4096.Idx := Finset.univ.filter fun x => (x 0).val = s ∧ (x 1).val = p

/-- Piece `(s, p)` of device `c`'s gathered buffer at share `q` and contents `f`. -/
def pce (c : Dev nD) (s p : ℕ) (q : PosShare TreeShare) (f : S16x4x64x4096.Idx → Elt F .fp8e4m3) : sProp 𝕄 :=
  (((c : Thread nD τ).loc cc0_scratch0) ↦[pieceSet s p]{q} f : sProp 𝕄)

omit [FloatOps F] in
instance pce_storable (c : Dev nD) (s p : ℕ) (q) (f) : BI.Storable (upEmb : UEmb _ 𝕄) (pce (F := F) c s p q f) := by unfold pce; infer_instance

/-- The row of a device's block that row `r` of quarter `p` is. -/
def rowAt (x : S16x4x64x4096.Idx) : S256x4096.Idx
  | ⟨0, _⟩ => (⟨64 * (x 1).val + (x 2).val, by have h1 : (x 1).val < 4 := (x 1).isLt; have h2 : (x 2).val < 64 := (x 2).isLt; show _ < 256; omega⟩ : Fin 256)
  | ⟨1, _⟩ => (⟨(x 3).val, (x 3).isLt⟩ : Fin 4096)

/-- Device `c`'s block of the left operand. -/
def xarg (c : Dev nD) : Vec F S256x4096 .f32 := m ((c : Thread nD τ).loc main_arg0)
/-- Device `c`'s block of the right operand. -/
def warg (c : Dev nD) : Vec F S4096x512 .f32 := m ((c : Thread nD τ).loc main_arg1)

/-- What the gathered buffer holds in the end on every device: every device's block, narrowed. -/
def gx : Vec F S16x4x64x4096 .fp8e4m3 :=
  truncf .fp8e4m3 (fun x : S16x4x64x4096.Idx => xarg m (⟨(x 0).val, (x 0).isLt⟩ : Dev nD) (rowAt x) : FVec F S16x4x64x4096 .f32) bitsLt_fp8e4m3_f32

/-- The credit of one message. -/
def N : ℕ := ((xgM.slice (Rect.unit (s := S16x4x64x4096) ![0, 0, 0, 0] S1x1x64x4096.size (by decide)) (fun _ => rfl)).squeeze S64x4096 squeezes_S1x1x64x4096_S64x4096 : Memref sig .tc .vmem S64x4096 .fp8e4m3).view.dmaCredit
theorem N_pos : 0 < N := View.dmaCredit_pos _ (by decide)

/-! ## The schedule -/

/-- The share of its source a message holds while it is under way: half of the piece it forwards, a quarter of an own
    piece (which goes out both ways at once). -/
def shr (w : Bool) (h : ℕ) : PosShare TreeShare :=
  if h = 0 then (if w then fullShare.right.left else fullShare.right.right) else fullShare.right

/-- The place on the neighbour that message `i` of device `c` will land in, at any contents. -/
def land (c : Dev nD) (i : ℕ) : sProp 𝕄 := iprop(∃ f, pce (nb c i) (sslot c i) (pc i) fullShare f)

/-- What a neighbour's barrier signal hands device `c`: the places on it that `c` writes. Duty `true` is the next
    device's, duty `false` the one's before. -/
def barPay (c : Dev nD) (d : Bool) : sProp 𝕄 := bigSep ((Finset.Ico 0 60).filter fun i => cw i = d) (land (F := F) c)

/-- What the completion of the semaphore numbered `s` hands device `c`: a send semaphore, the source share back; a
    receive semaphore, the piece landed. -/
def dmaPay (c : Dev nD) (s : ℕ) : sProp 𝕄 :=
  if s < 34 then pce c ((c.val + 16 - (s - 2) / 4) % 16) ((s - 2) % 4) (shr true ((s - 2) / 4)) (gx m)
  else if s < 66 then pce c ((c.val + 15 - (s - 34) / 4) % 16) ((s - 34) % 4) fullShare (gx m)
  else if s < 98 then pce c ((c.val + (s - 66) / 4) % 16) ((s - 66) % 4) (shr false ((s - 66) / 4)) (gx m)
  else pce c ((c.val + (s - 98) / 4 + 1) % 16) ((s - 98) % 4) fullShare (gx m)

/-- One round: a barrier cell has the two neighbours' duties of one unit each, a message's cells one duty of its credit. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := match g.2 with | .reg _ => barPay g.1.1 d | .dma s => dmaPay m g.1.1 (s : Fin 139).val
  amount_pos g _ _ _ := by
    rcases g with ⟨t, s | s⟩
    · exact Nat.one_pos
    · exact N_pos

instance barPay_storable (c : Dev nD) (d : Bool) : BI.Storable (upEmb : UEmb _ 𝕄) (barPay (F := F) c d) := by
  unfold barPay land; infer_instance
instance dmaPay_storable (c : Dev nD) (s : ℕ) : BI.Storable (upEmb : UEmb _ 𝕄) (dmaPay (F := F) m c s) := by
  unfold dmaPay; (repeat' split) <;> infer_instance
instance ringRd_payload_storable (g : GSem nD τ sig) (r : ℕ) (d : Bool) :
    BI.Storable (upEmb : UEmb _ 𝕄) ((ringRd (F := F) m).payload g r d) := by
  rcases g with ⟨t, s | s⟩
  · show BI.Storable upEmb (barPay t.1 d); infer_instance
  · show BI.Storable upEmb (dmaPay m t.1 _); infer_instance

section Sched
variable (c : Dev nD)

theorem duties_bar : (ringRd (F := F) m).duties (barCell c) 0 = Finset.univ := by dsimp only [ringRd]; exact if_pos ⟨rfl, rfl⟩
theorem duties_dma (s : DmaSem sig) : (ringRd (F := F) m).duties ((c : Thread nD τ), .dma s) 0 = {false} := by
  dsimp only [ringRd]; exact if_pos ⟨rfl, rfl⟩
theorem duties_later (g : GSem nD τ sig) : ∀ r, 1 ≤ r → (ringRd (F := F) m).duties g r = ∅ :=
  fun r hr => by dsimp only [ringRd]; rw [if_neg fun h => by omega]
theorem expect_bar : (ringRd (F := F) m).expect (barCell c) 0 = 2 := by
  unfold Schedule.expect Schedule.amountOf
  rw [duties_bar]; rfl
theorem expect_dma (s : DmaSem sig) : (ringRd (F := F) m).expect ((c : Thread nD τ), .dma s) 0 = N := by
  unfold Schedule.expect Schedule.amountOf; rw [duties_dma, Finset.sum_singleton]; rfl

/-- The payload of message `i`'s send semaphore on its sender. -/
theorem pay_s (i : ℕ) (hi : i < 60) (d : Bool) :
    (ringRd (F := F) m).payload (sCell c i) 0 d = pce c (sslot c i) (pc i) (shr (cw i) (hop i)) (gx m) := by
  show dmaPay m c (sIdx i % 139) = _
  have hs := sIdx_lt i hi
  have h7 : hop i ≤ 7 := by unfold hop; split <;> omega
  have hp : pc i < 4 := pc_lt i hi
  rw [Nat.mod_eq_of_lt (by omega)]
  unfold dmaPay sIdx sslot
  cases cw i
  · simp only [Bool.false_eq_true, if_false]
    rw [if_neg (by omega), if_neg (by omega), if_pos (by omega), show (66 + 4 * hop i + pc i - 66) / 4 = hop i by omega,
      show (66 + 4 * hop i + pc i - 66) % 4 = pc i by omega]
  · simp only [if_true]
    rw [if_pos (by omega), show (2 + 4 * hop i + pc i - 2) / 4 = hop i by omega, show (2 + 4 * hop i + pc i - 2) % 4 = pc i by omega]

/-- The payload of message `i`'s receive semaphore on its receiver. -/
theorem pay_r (i : ℕ) (hi : i < 60) (d : Bool) :
    (ringRd (F := F) m).payload (rCell c i) 0 d = pce c (rslot c i) (pc i) fullShare (gx m) := by
  show dmaPay m c (rIdx i % 139) = _
  have hs := rIdx_lt i hi
  have h7 : hop i ≤ 7 := by unfold hop; split <;> omega
  have hp : pc i < 4 := pc_lt i hi
  rw [Nat.mod_eq_of_lt (by omega)]
  unfold dmaPay rIdx rslot
  rw [if_pos hi]
  cases cw i
  · simp only [Bool.false_eq_true, if_false]
    rw [if_neg (by omega), if_neg (by omega), if_neg (by omega), show (98 + 4 * hop i + pc i - 98) / 4 = hop i by omega,
      show (98 + 4 * hop i + pc i - 98) % 4 = pc i by omega]
  · simp only [if_true]
    rw [if_neg (by omega), if_pos (by omega), show (34 + 4 * hop i + pc i - 34) / 4 = hop i by omega, show (34 + 4 * hop i + pc i - 34) % 4 = pc i by omega]

theorem rest_s (i : ℕ) (hi : i < 60) : bigSep ((ringRd (F := F) m).duties (sCell c i) 0 \ ∅) (fun d => (ringRd (F := F) m).payload (sCell c i) 0 d)
    = pce c (sslot c i) (pc i) (shr (cw i) (hop i)) (gx m) := by
  rw [Finset.sdiff_empty, duties_dma, bigSep_singleton, pay_s m c i hi]
theorem rest_r (i : ℕ) (hi : i < 60) : bigSep ((ringRd (F := F) m).duties (rCell c i) 0 \ ∅) (fun d => (ringRd (F := F) m).payload (rCell c i) 0 d)
    = pce c (rslot c i) (pc i) fullShare (gx m) := by
  rw [Finset.sdiff_empty, duties_dma, bigSep_singleton, pay_r m c i hi]

/-- The two neighbours' signals together hand over every place device `c` writes. -/
theorem rest_bar : bigSep ((ringRd (F := F) m).duties (barCell c) 0 \ ∅) (fun d => (ringRd (F := F) m).payload (barCell c) 0 d)
    ⊢ bigSep (Finset.Ico 0 60) (land (F := F) c) := by
  have e : (Finset.Ico 0 60 : Finset ℕ) = (Finset.Ico 0 60).filter (fun i => cw i = false) ∪ (Finset.Ico 0 60).filter (fun i => cw i = true) := by decide +kernel
  have hd : Disjoint ((Finset.Ico 0 60).filter (fun i => cw i = false)) ((Finset.Ico 0 60).filter (fun i => cw i = true)) := by
    rw [Finset.disjoint_left]; intro x hx hy; rw [Finset.mem_filter] at hx hy; rw [hx.2] at hy; exact Bool.false_ne_true hy.2
  rw [Finset.sdiff_empty, duties_bar, bigSep_univ_eq_bigSepL [false, true] (by decide) (by decide), bigSepL_cons_cons, bigSepL_singleton, e, bigSep_union hd]
  exact BI.Entails.refl _

end Sched

/-! ## What each core owes; the levels -/

/-- What device `c` owes its neighbours' receive cells when it has sent the messages below `n`. -/
def owedR (c : Dev nD) (n : ℕ) : CellTallies nD τ sig Unit := ∑ i ∈ Finset.Ico n 60, tallyAt (rCell (nb c i) i) () N
/-- That and the signal to the next device, -/
def O₁ (c : Dev nD) : CellTallies nD τ sig Unit := owedR c 0 + tallyAt (barCell (nxt c)) () 1
/-- and that and the signal to the device before: what a device owes at launch. -/
def O₀ (c : Dev nD) : CellTallies nD τ sig Unit := O₁ c + tallyAt (barCell (prv c)) () 1

theorem owedR_step (c : Dev nD) (n : ℕ) (h : n < 60) : owedR c n = owedR c (n + 1) + tallyAt (rCell (nb c n) n) () N := by
  unfold owedR
  rw [show Finset.Ico n 60 = insert n (Finset.Ico (n + 1) 60) by ext x; simp only [Finset.mem_Ico, Finset.mem_insert]; omega,
    Finset.sum_insert (by rw [Finset.mem_Ico]; omega), add_comm]
theorem owedR_end (c : Dev nD) : owedR c 60 = 0 := by unfold owedR; rw [Finset.Ico_self, Finset.sum_empty]

def L (g : GSem nD τ sig) : Finset Unit := if g.1.2 = .tc then {()} else ∅
/-- The level of the DMA semaphore numbered `s`: a receive semaphore's is its message's number and two; 0 for the rest. -/
def lvS (s : ℕ) : ℕ :=
  if 34 ≤ s ∧ s < 66 then (if s < 62 then 8 * ((s - 34) / 4) + 2 * ((s - 34) % 4) else 56 + (s - 34) % 4) + 2
  else if 98 ≤ s ∧ s < 130 then (if s < 126 then 8 * ((s - 98) / 4) + 2 * ((s - 98) % 4) + 1 else 56 + (s - 98) % 4) + 2
  else 0
/-- Barrier cells at 1, the receive cell of message `i` at `i + 2`, everything else at 0. -/
def lv (g : GSem nD τ sig) (_ : Unit) : ℕ := match g.2 with | .reg _ => 1 | .dma s => lvS (s : Fin 139).val

theorem L_of_ne (g : GSem nD τ sig) (h : g.1.2 ≠ .tc) : L g = ∅ := if_neg h
theorem L_tc (c : Dev nD) (sm : SemLoc sig) : L ((c : Thread nD τ), sm) = {()} := if_pos rfl
theorem lvS_r : ∀ i < 60, lvS (rIdx i % 139) = i + 2 := by decide +kernel
theorem lvS_s : ∀ i < 60, lvS (sIdx i % 139) = 0 := by decide +kernel

theorem owedR_pos {c : Dev nD} {n : ℕ} {g : GSem nD τ sig} {u : Unit} (h : 0 < owedR c n g u) :
    ∃ i, n ≤ i ∧ i < 60 ∧ g = rCell (nb c i) i := by
  unfold owedR at h
  rw [Finset.sum_apply, Finsupp.finset_sum_apply] at h
  obtain ⟨i, hi, hne⟩ := Finset.exists_ne_zero_of_sum_ne_zero (Nat.pos_iff_ne_zero.mp h)
  rw [tallyAt_apply] at hne
  have hi' := Finset.mem_Ico.mp hi
  refine ⟨i, hi'.1, hi'.2, ?_⟩
  by_contra hn
  exact hne (if_neg fun h' => hn h'.1)

/-- Every cell owed lies on a core and has a level above `b`. -/
def Above (b : ℕ) (O : CellTallies nD τ sig Unit) : Prop := ∀ g u, 0 < O g u → g.1.2 = .tc ∧ b < lv g u

theorem above_owedR (c : Dev nD) (n : ℕ) : Above (n + 1) (owedR c n) := by
  intro g u h
  obtain ⟨i, h1, h2, rfl⟩ := owedR_pos h
  refine ⟨rfl, ?_⟩
  show n + 1 < lvS (rIdx i % 139)
  rw [lvS_r i h2]; omega
theorem above_mono {b b' : ℕ} {O : CellTallies nD τ sig Unit} (h : b' ≤ b) (hO : Above b O) : Above b' O :=
  fun g u hg => ⟨(hO g u hg).1, lt_of_le_of_lt h (hO g u hg).2⟩
theorem above_bar {O : CellTallies nD τ sig Unit} (c : Dev nD) (hO : Above 0 O) : Above 0 (O + tallyAt (barCell c) () 1) := by
  intro g u h
  rw [Pi.add_apply, Finsupp.add_apply, tallyAt_apply] at h
  by_cases hg : g = barCell c ∧ u = ()
  · rw [hg.1]; exact ⟨rfl, Nat.one_pos⟩
  · rw [if_neg hg] at h; exact hO g u h
theorem above_O₁ (c : Dev nD) : Above 0 (O₁ c) := above_bar _ (above_mono (Nat.zero_le _) (above_owedR c 0))
theorem above_O₀ (c : Dev nD) : Above 0 (O₀ c) := above_bar _ (above_O₁ c)

omit [FloatOps F] in
/-- A device waits on a cell of level at most `b` while everything it owes lies above `b`. -/
theorem mayWait_of (c : Dev nD) (sm : SemLoc sig) (b : ℕ) (hsm : lv ((c : Thread nD τ), sm) () ≤ b) (O : CellTallies nD τ sig Unit) (hO : Above b O) :
    (levAts L lv : sProp 𝕄) ⊢ MayWait (c : Thread nD τ) sm () O := by
  refine MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.Proof.Ring
-- ==== Proof.Steps.lean ====
/-
The state of a device between two operations of the kernel, as far as its messages go, and what one operation on a
message does to it: sending, receiving, waiting for a send to complete.
-/
module

public import proofs.«01_k».proof.Proof.Protocol

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What device `c` needs to run program `p` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Runs of numbers -/

omit [FloatOps F] in
theorem ico_bot {a b : ℕ} (h : a < b) (A : ℕ → sProp 𝕄) : bigSep (Finset.Ico a b) A ⊢ iprop(A a ∗ bigSep (Finset.Ico (a + 1) b) A) :=
  Entails.of_eq (bigSep_Ico_succ_bot h A)
omit [FloatOps F] in
theorem ico_top {a b : ℕ} (h : a ≤ b) (A : ℕ → sProp 𝕄) : iprop(A b ∗ bigSep (Finset.Ico a b) A) ⊢ bigSep (Finset.Ico a (b + 1)) A :=
  Entails.of_eq (bigSep_Ico_succ_top h A).symm

/-- A step that trades `P` for `P'` and goes on runs beside anything else. -/
theorem lift {P P' R A B : sProp 𝕄} (h : P ⊢ iprop((P' -∗ A) -∗ B)) (h' : iprop(P' ∗ R) ⊢ A) : iprop(P ∗ R) ⊢ B := by
  iintro ⟨HP, HR⟩
  iapply h $$ HP
  iintro HP'
  iapply h'
  isplitl [HP']; · iexact HP'
  iexact HR

/-! ## The state -/

/-- Every cell's invariant, at its name, and that its round 0 is open: shared by all devices. -/
def recs (K : GSem nD τ sig → ℕ) : sProp 𝕄 := bigSep ringCells fun g => iprop(cellInv ER (ringRd m) (K g) g ∗ reached ER g 0)
instance recs_persistent (K : GSem nD τ sig → ℕ) : BI.Persistent (recs m K) := by unfold recs; infer_instance

theorem recs_at (K : GSem nD τ sig → ℕ) {g : GSem nD τ sig} (h : g ∈ ringCells) :
    recs m K ⊢ iprop(cellInv ER (ringRd m) (K g) g ∗ reached ER g 0) := by
  unfold recs; exact bigSep_elim h

/-- What device `c` needs to send message `i`, its source aside. -/
def SendRes (c : Dev nD) (i : ℕ) : sProp 𝕄 := iprop(dutyTok ER (sCell c i) 0 false ∗ dutyTok ER (rCell (nb c i) i) 0 false ∗ land c i)
/-- What device `c` needs to receive message `i`. -/
def RecvRes (c : Dev nD) (i : ℕ) : sProp 𝕄 := iprop(cred (tallyAt (rCell c i) () N) ∗ atPos ER (rCell c i) 0 ∅ 0)
/-- What device `c` keeps of a message under way. -/
def SentRes (c : Dev nD) (i : ℕ) : sProp 𝕄 := cred (tallyAt (sCell c i) () N)
def PosRes (c : Dev nD) (i : ℕ) : sProp 𝕄 := atPos ER (sCell c i) 0 ∅ 0
/-- The half of a received piece the products read, -/
def GotL (c : Dev nD) (i : ℕ) : sProp 𝕄 := pce c (rslot c i) (pc i) fullShare.left (gx m)
/-- and the half that is forwarded. -/
def GotR (c : Dev nD) (i : ℕ) : sProp 𝕄 := pce c (rslot c i) (pc i) fullShare.right (gx m)
/-- The source share of message `i`. -/
def Src (c : Dev nD) (i : ℕ) : sProp 𝕄 := pce c (sslot c i) (pc i) (shr (cw i) (hop i)) (gx m)
def RZero (c : Dev nD) (i : ℕ) : sProp 𝕄 := semVal (rCell c i) 0
def SZero (c : Dev nD) (i : ℕ) : sProp 𝕄 := semVal (sCell c i) 0

/-- Device `c` after sending the messages below `ns`, receiving those below `nr` and having waited for the first `nw`
    sends to complete. -/
def St (K : GSem nD τ sig → ℕ) (c : Dev nD) (ns nr nw : ℕ) : sProp 𝕄 :=
  iprop(recs m K ∗ levAts L lv ∗ (∃ W, owes (c : Thread nD τ) (owedR c ns) W)
    ∗ bigSep (Finset.Ico ns 60) (SendRes c) ∗ bigSep (Finset.Ico nr 60) (RecvRes c)
    ∗ bigSep (Finset.Ico nw ns) (SentRes c) ∗ bigSep (Finset.Ico nw 60) (PosRes c)
    ∗ bigSep (Finset.Ico 0 nr) (GotL m c)
    ∗ bigSep ((Finset.Ico 0 nr).filter fun j => ns ≤ succ j) (GotR m c)
    ∗ bigSep (Finset.Ico 0 nw) (Src m c)
    ∗ bigSep (Finset.Ico 0 nr) (RZero c) ∗ bigSep (Finset.Ico 0 nw) (SZero c))

omit [FloatOps F] in
theorem pce_halves (c : Dev nD) (s p : ℕ) (q : PosShare TreeShare) (f) :
    pce (F := F) c s p q f ⊣⊢ iprop(pce c s p q.left f ∗ pce c s p q.right f) :=
  pointsTo_share (PosShare.mem_left_op_right q)

theorem recv_filter (ns nr : ℕ) (hs : ns ≤ succ nr) (A : ℕ → sProp 𝕄) :
    iprop(A nr ∗ bigSep ((Finset.Ico 0 nr).filter fun j => ns ≤ succ j) A) ⊢ bigSep ((Finset.Ico 0 (nr + 1)).filter fun j => ns ≤ succ j) A := by
  rw [Nat.Ico_succ_right_eq_insert_Ico (Nat.zero_le _), Finset.filter_insert, if_pos hs, bigSep_insert (by simp)]
  exact BI.Entails.refl _

/-- Receiving message `nr`. -/
theorem step_recv (K : GSem nD τ sig → ℕ) (c : Dev nD) {ns nr nw : ℕ} {α : Type} {Q : α → sProp 𝕄}
    {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (hsm : sm = rS nr) (hN : v'.view.dmaCredit = N) (hlt : nr < 60) (hns : nr < ns) (hsu : ns ≤ succ nr) :
    St m K c ns nr nw ⊢ iprop((St m K c ns (nr + 1) nw -∗ WP c (k ⟨⟩) Q) -∗ WP c (.op (.waitDma2 sm v v' h1 h2) k) Q) := by
  subst hsm
  unfold St
  iintro ⟨#HK, #Hlev, ⟨%W, HO⟩, HS, HR, HT, HP, HL, HRt, HSrc, HZ, HSZ⟩ Hk
  ihave HR' := (ico_bot hlt _) $$ HR
  icases HR' with ⟨Hr, HR⟩
  unfold RecvRes
  icases Hr with ⟨Hc, Hat⟩
  ihave Hi := (recs_at m K (r_mem c nr hlt)) $$ HK
  icases Hi with ⟨#Hi, -⟩
  iapply (Rounds.wp_wait_rest_token 𝒱₀ ER (ringRd m) (c : Thread nD τ) none (κ := K (rCell c nr))
      (wpE_waitDma2_eq 𝒱₀ (c : Thread nD τ) none Set.univ) (Set.mem_univ _) () (O := owedR c ns) (W := W) (R := 0) (m := 0) (T := ∅)
      (by rw [expect_dma, hN, zero_add])) $$ [Hc HO Hat]
  · isplitr; · iexact Hi
    isplitl [Hc]; · rw [hN]; iexact Hc
    isplitl [HO]; · iexact HO
    isplitr
    · iapply (mayWait_of c _ (ns + 1) (by show lvS (rIdx nr % 139) ≤ _; rw [lvS_r nr hlt]; omega) _ (above_owedR c ns)); iexact Hlev
    iexact Hat
  iintro ⟨HO, Hat, -, Hpay⟩
  ihave Hp := (Entails.of_eq (rest_r m c nr hlt)) $$ Hpay
  imod (cell_close ER (ringRd m) (Set.mem_univ (K (rCell c nr))) (fun h => h) (R := 0 + 1) (duties_later m (rCell c nr))) $$ [Hat] with Hz
  · isplitr; · iexact Hi
    iexact Hat
  ihave Hp2 := (pce_halves c _ _ _ _).1 $$ Hp
  icases Hp2 with ⟨Hl, Hr⟩
  iapply Hk
  isplitr; · iexact HK
  isplitr; · iexact Hlev
  isplitl [HO]; · iexists _; iexact HO
  isplitl [HS]; · iexact HS
  isplitl [HR]; · iexact HR
  isplitl [HT]; · iexact HT
  isplitl [HP]; · iexact HP
  isplitl [HL Hl]
  · iapply (ico_top (Nat.zero_le _) _); isplitl [Hl]; · unfold GotL; iexact Hl
    iexact HL
  isplitl [HRt Hr]
  · iapply (recv_filter ns nr hsu _); isplitl [Hr]; · unfold GotR; iexact Hr
    iexact HRt
  isplitl [HSrc]; · iexact HSrc
  isplitl [HZ Hz]
  · iapply (ico_top (Nat.zero_le _) _); isplitl [Hz]; · unfold RZero; iexact Hz
    iexact HZ
  iexact HSZ

/-- Waiting for the send of message `nw` to complete, everything sent. -/
theorem step_wsend (K : GSem nD τ sig → ℕ) (c : Dev nD) {nr nw : ℕ} {α : Type} {Q : α → sProp 𝕄}
    {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (hsm : sm = sS nw) (hN : v'.view.dmaCredit = N) (hlt : nw < 60) :
    St m K c 60 nr nw ⊢ iprop((St m K c 60 nr (nw + 1) -∗ WP c (k ⟨⟩) Q) -∗ WP c (.op (.waitDma2 sm v v' h1 h2) k) Q) := by
  subst hsm
  unfold St
  iintro ⟨#HK, #Hlev, ⟨%W, HO⟩, HS, HR, HT, HP, HL, HRt, HSrc, HZ, HSZ⟩ Hk
  ihave HT' := (ico_bot hlt _) $$ HT
  icases HT' with ⟨Hc, HT⟩
  ihave HP' := (ico_bot hlt _) $$ HP
  icases HP' with ⟨Hat, HP⟩
  unfold SentRes PosRes
  ihave Hi := (recs_at m K (s_mem c nw hlt)) $$ HK
  icases Hi with ⟨#Hi, -⟩
  iapply (Rounds.wp_wait_rest_token 𝒱₀ ER (ringRd m) (c : Thread nD τ) none (κ := K (sCell c nw))
      (wpE_waitDma2_eq 𝒱₀ (c : Thread nD τ) none Set.univ) (Set.mem_univ _) () (O := owedR c 60) (W := W) (R := 0) (m := 0) (T := ∅)
      (by rw [expect_dma, hN, zero_add])) $$ [Hc HO Hat]
  · isplitr; · iexact Hi
    isplitl [Hc]; · rw [hN]; iexact Hc
    isplitl [HO]; · iexact HO
    isplitr
    · rw [owedR_end, MayWait_zero]; iempintro
    iexact Hat
  iintro ⟨HO, Hat, -, Hpay⟩
  ihave Hp := (Entails.of_eq (rest_s m c nw hlt)) $$ Hpay
  imod (cell_close ER (ringRd m) (Set.mem_univ (K (sCell c nw))) (fun h => h) (R := 0 + 1) (duties_later m (sCell c nw))) $$ [Hat] with Hz
  · isplitr; · iexact Hi
    iexact Hat
  iapply Hk
  isplitr; · iexact HK
  isplitr; · iexact Hlev
  isplitl [HO]; · iexists _; iexact HO
  isplitl [HS]; · iexact HS
  isplitl [HR]; · iexact HR
  isplitl [HT]; · iexact HT
  isplitl [HP]; · iexact HP
  isplitl [HL]; · iexact HL
  isplitl [HRt]; · iexact HRt
  isplitl [HSrc Hp]
  · iapply (ico_top (Nat.zero_le _) _); isplitl [Hp]; · unfold Src; iexact Hp
    iexact HSrc
  isplitl [HZ]; · iexact HZ
  iapply (ico_top (Nat.zero_le _) _); isplitl [Hz]; · unfold SZero; iexact Hz
  iexact HSZ

/-! ## Sending -/

/-- The printed view of piece `off`. -/
abbrev pieceM (off : Fin 4 → ℕ) (inb : ∀ a, off a + S1x1x64x4096.size a ≤ S16x4x64x4096.size a) : Memref sig .tc .vmem S64x4096 .fp8e4m3 :=
  (xgM.slice (Rect.unit (s := S16x4x64x4096) off S1x1x64x4096.size inb) (fun _ => rfl)).squeeze S64x4096 squeezes_S1x1x64x4096_S64x4096

theorem rect_piece (s p : ℕ) (inb) : (Rect.unit (s := S16x4x64x4096) ![s, p, 0, 0] S1x1x64x4096.size inb).set = pieceSet s p := by
  ext x
  rw [Rect.mem_set_unit]
  unfold pieceSet
  rw [Finset.mem_filter]
  constructor
  · intro h
    have h0 : s ≤ (x 0).val ∧ (x 0).val < s + 1 := h 0
    have h1 : p ≤ (x 1).val ∧ (x 1).val < p + 1 := h 1
    exact ⟨Finset.mem_univ _, by omega, by omega⟩
  · rintro ⟨-, h0, h1⟩ a
    match a with
    | ⟨0, _⟩ => show s ≤ (x 0).val ∧ (x 0).val < s + 1; omega
    | ⟨1, _⟩ => show p ≤ (x 1).val ∧ (x 1).val < p + 1; omega
    | ⟨2, _⟩ => exact ⟨Nat.zero_le _, by show (x 2).val < 0 + 64; have : (x 2).val < 64 := (x 2).isLt; omega⟩
    | ⟨3, _⟩ => exact ⟨Nat.zero_le _, by show (x 3).val < 0 + 4096; have : (x 3).val < 4096 := (x 3).isLt; omega⟩

theorem pieceM_set (s p : ℕ) (inb) : (pieceM ![s, p, 0, 0] inb).view.set = pieceSet s p := by
  show ((View.whole (κ := .tc) cc0_scratch0).slice _ |>.reshape S64x4096 _).set = _
  rw [View.set_reshape, View.set_slice_whole]
  exact rect_piece s p inb

/-- Writing through a view what the same view reads off a buffer makes its elements that buffer's. -/
theorem write_read_self {sp : Space} {s : Shape} {e : EltTy} (v : View sig .tc sp s e) (f g : v.ty.Contents (Elt F)) :
    ∀ i ∈ v.set, v.write (Elt F) f (v.read (Elt F) g) Finset.univ i = g i := by
  intro i hi
  rw [View.write_read_eq_piecewise, View.setOn_univ, Finset.piecewise_eq_of_mem _ _ _ hi]

theorem send_filter (ns nr : ℕ) (j : ℕ) (hj : j < nr) (hr : nr ≤ 60) (hs : succ j = ns) (hlt : ns < 60) (A : ℕ → sProp 𝕄) :
    bigSep ((Finset.Ico 0 nr).filter fun j => ns ≤ succ j) A ⊢ iprop(A j ∗ bigSep ((Finset.Ico 0 nr).filter fun j => ns + 1 ≤ succ j) A) := by
  have e : (Finset.Ico 0 nr).filter (fun j => ns ≤ succ j) = insert j ((Finset.Ico 0 nr).filter fun j => ns + 1 ≤ succ j) := by
    ext x
    simp only [Finset.mem_filter, Finset.mem_Ico, Finset.mem_insert]
    constructor
    · rintro ⟨⟨-, h1⟩, h2⟩
      by_cases h : succ x = ns
      · exact .inl (succ_inj x (by omega) j (by omega) (by omega) (by omega))
      · exact .inr ⟨⟨by omega, h1⟩, by omega⟩
    · rintro (rfl | ⟨⟨-, h1⟩, h2⟩)
      · exact ⟨⟨by omega, hj⟩, by omega⟩
      · exact ⟨⟨by omega, h1⟩, by omega⟩
  rw [e, bigSep_insert (by rw [Finset.mem_filter]; omega)]
  exact BI.Entails.refl _

theorem own_filter (ns : ℕ) (h : ns < 8) (nr : ℕ) (hr : nr ≤ 60) :
    (Finset.Ico 0 nr).filter (fun j => ns ≤ succ j) = (Finset.Ico 0 nr).filter fun j => ns + 1 ≤ succ j := by
  refine Finset.filter_congr fun j hj => ?_
  have := succ_gt j (by rw [Finset.mem_Ico] at hj; omega)
  omega

/-- The state without the halves kept for forwarding. -/
def St' (K : GSem nD τ sig → ℕ) (c : Dev nD) (ns nr nw : ℕ) : sProp 𝕄 :=
  iprop(recs m K ∗ levAts L lv ∗ (∃ W, owes (c : Thread nD τ) (owedR c ns) W)
    ∗ bigSep (Finset.Ico ns 60) (SendRes c) ∗ bigSep (Finset.Ico nr 60) (RecvRes c)
    ∗ bigSep (Finset.Ico nw ns) (SentRes c) ∗ bigSep (Finset.Ico nw 60) (PosRes c)
    ∗ bigSep (Finset.Ico 0 nr) (GotL m c)
    ∗ bigSep (Finset.Ico 0 nw) (Src m c)
    ∗ bigSep (Finset.Ico 0 nr) (RZero c) ∗ bigSep (Finset.Ico 0 nw) (SZero c))

/-- Sending message `ns`, its source share in hand. -/
theorem step_send' (K : GSem nD τ sig → ℕ) (c : Dev nD) {ns nr nw : ℕ} {α : Type} {Q : α → sProp 𝕄}
    {dv : Dev nD} {off off' : Fin 4 → ℕ} {inb inb'} {s1 s2 : DmaSem sig}
    {hsc : (pieceM off' inb' : Memref sig (Dev.tc dv : Thread nD τ).2.kind .vmem S64x4096 .fp8e4m3).view.ref.isScScratch = false}
    {hsrc : (pieceM off inb).view.WordExact} {hdst : (pieceM off' inb').view.WordExact}
    {hsem : DmaTarget.Typed .vmem (.dma s2) (.remote (Dev.tc dv : Thread nD τ) (pieceM off' inb') (.dma s1) hsc)}
    {k : PUnit → Prog (TpuEff nD τ sig (Elt F) Λ₀ .tc) α}
    (hdv : dv = nb c ns) (hoff : off = ![sslot c ns, pc ns, 0, 0]) (hoff' : off' = ![sslot c ns, pc ns, 0, 0])
    (hs1 : s1 = sS ns) (hs2 : s2 = rS ns) (hlt : ns < 60) (hnw : nw ≤ ns) :
    iprop(Src m c ns ∗ St' m K c ns nr nw) ⊢ iprop((St' m K c (ns + 1) nr nw -∗ WP c (k ⟨⟩) Q)
      -∗ WP c (.op (.enqueueDma (pieceM off inb) (.remote (Dev.tc dv : Thread nD τ) (pieceM off' inb') (.dma s1) hsc) (.dma s2) hsrc hdst hsem) k) Q) := by
  subst hdv hoff hoff' hs1 hs2
  unfold St'
  iintro ⟨Hsrc, #HK, #Hlev, ⟨%W, HO⟩, HS, HR, HT, HP, HL, HSrc, HZ, HSZ⟩ Hk
  ihave HS' := (ico_bot hlt _) $$ HS
  icases HS' with ⟨Hs, HS⟩
  unfold SendRes land
  icases Hs with ⟨Htok, Htok', ⟨%fd, Hd⟩⟩
  ihave Hi := (recs_at m K (s_mem c ns hlt)) $$ HK
  icases Hi with ⟨#Hi, #Hre⟩
  ihave Hi' := (recs_at m K (r_mem (nb c ns) ns hlt)) $$ HK
  icases Hi' with ⟨#Hi', #Hre'⟩
  iapply (Rounds.wp_send_pointsTo 𝒱₀ ER (ringRd m) (c : Thread nD τ) none (c' := (Dev.tc (nb c ns) : Thread nD τ))
    (src := pieceM ![sslot c ns, pc ns, 0, 0] inb) (dst := pieceM ![sslot c ns, pc ns, 0, 0] inb')
    (κ₁ := K (sCell c ns)) (κ₂ := K (rCell (nb c ns) ns))
    (r₁ := 0) (r₂ := 0) (d₁ := false) (d₂ := false) (fd := fd) (fs := gx m) (q := shr (cw ns) (hop ns))
    (by rw [duties_dma]; exact Finset.mem_singleton_self _) (by rw [duties_dma]; exact Finset.mem_singleton_self _)
    () () N rfl rfl rfl (owedR c (ns + 1)) (owedR_step c ns hlt) (W := W)
    (by rw [pay_s m c ns hlt]; unfold pce; rw [pieceM_set])
    (by rw [pay_r m (nb c ns) ns hlt, rslot_nb c ns hlt]; unfold pce; rw [← pieceM_set _ _ inb']
        exact Entails.of_eq (pointsTo_congr (write_read_self (pieceM ![sslot c ns, pc ns, 0, 0] inb').view fd (gx m))))) $$ [Hsrc Hd HO Htok Htok']
  · isplitr; · iexact Hi
    isplitr; · iexact Hi'
    isplitl [Hsrc]; · rw [pieceM_set]; unfold Src pce; iexact Hsrc
    isplitl [Hd]; · rw [pieceM_set]; unfold pce; iexact Hd
    isplitl [HO]; · iexact HO
    isplitl [Htok]; · iexact Htok
    isplitr; · iexact Hre
    isplitl [Htok']; · iexact Htok'
    iexact Hre'
  iintro ⟨Hc, HO⟩
  iapply Hk
  isplitr; · iexact HK
  isplitr; · iexact Hlev
  isplitl [HO]; · iexists _; iexact HO
  isplitl [HS]; · iexact HS
  isplitl [HR]; · iexact HR
  isplitl [HT Hc]
  · iapply (ico_top hnw _); isplitl [Hc]; · unfold SentRes; iexact Hc
    iexact HT
  isplitl [HP]; · iexact HP
  isplitl [HL]; · iexact HL
  isplitl [HSrc]; · iexact HSrc
  isplitl [HZ]; · iexact HZ
  iexact HSZ

theorem St_split (K : GSem nD τ sig → ℕ) (c : Dev nD) (ns nr nw : ℕ) :
    St m K c ns nr nw ⊣⊢ iprop(bigSep ((Finset.Ico 0 nr).filter fun j => ns ≤ succ j) (GotR m c) ∗ St' m K c ns nr nw) := by
  unfold St St'
  constructor
  · iintro ⟨HK, Hlev, HO, HS, HR, HT, HP, HL, HRt, HSrc, HZ, HSZ⟩
    isplitl [HRt]; · iexact HRt
    isplitl [HK]; · iexact HK
    isplitl [Hlev]; · iexact Hlev
    isplitl [HO]; · iexact HO
    isplitl [HS]; · iexact HS
    isplitl [HR]; · iexact HR
    isplitl [HT]; · iexact HT
    isplitl [HP]; · iexact HP
    isplitl [HL]; · iexact HL
    isplitl [HSrc]; · iexact HSrc
    isplitl [HZ]; · iexact HZ
    iexact HSZ
  · iintro ⟨HRt, HK, Hlev, HO, HS, HR, HT, HP, HL, HSrc, HZ, HSZ⟩
    isplitl [HK]; · iexact HK
    isplitl [Hlev]; · iexact Hlev
    isplitl [HO]; · iexact HO
    isplitl [HS]; · iexact HS
    isplitl [HR]; · iexact HR
    isplitl [HT]; · iexact HT
    isplitl [HP]; · iexact HP
    isplitl [HL]; · iexact HL
    isplitl [HRt]; · iexact HRt
    isplitl [HSrc]; · iexact HSrc
    isplitl [HZ]; · iexact HZ
    iexact HSZ

/-- Sending message `ns < 8`, of an own piece. -/
theorem step_own (K : GSem nD τ sig → ℕ) (c : Dev nD) {ns nr nw : ℕ} {α : Type} {Q : α → sProp 𝕄}
    {dv : Dev nD} {off off' : Fin 4 → ℕ} {inb inb'} {s1 s2 : DmaSem sig}
    {hsc : (pieceM off' inb' : Memref sig (Dev.tc dv : Thread nD τ).2.kind .vmem S64x4096 .fp8e4m3).view.ref.isScScratch = false}
    {hsrc : (pieceM off inb).view.WordExact} {hdst : (pieceM off' inb').view.WordExact}
    {hsem : DmaTarget.Typed .vmem (.dma s2) (.remote (Dev.tc dv : Thread nD τ) (pieceM off' inb') (.dma s1) hsc)}
    {k : PUnit → Prog (TpuEff nD τ sig (Elt F) Λ₀ .tc) α}
    (hdv : dv = nb c ns) (hoff : off = ![sslot c ns, pc ns, 0, 0]) (hoff' : off' = ![sslot c ns, pc ns, 0, 0])
    (hs1 : s1 = sS ns) (hs2 : s2 = rS ns) (hlt : ns < 8) (hnw : nw ≤ ns) (hnr : nr ≤ 60) :
    iprop(Src m c ns ∗ St m K c ns nr nw) ⊢ iprop((St m K c (ns + 1) nr nw -∗ WP c (k ⟨⟩) Q)
      -∗ WP c (.op (.enqueueDma (pieceM off inb) (.remote (Dev.tc dv : Thread nD τ) (pieceM off' inb') (.dma s1) hsc) (.dma s2) hsrc hdst hsem) k) Q) := by
  iintro ⟨Hs, H⟩ Hk
  ihave H' := (St_split m K c ns nr nw).1 $$ H
  icases H' with ⟨HR, H⟩
  iapply (step_send' m K c hdv hoff hoff' hs1 hs2 (by omega) hnw) $$ [Hs H]
  · isplitl [Hs]; · iexact Hs
    iexact H
  iintro H
  iapply Hk
  iapply (St_split m K c (ns + 1) nr nw).2
  isplitl [HR]; · rw [own_filter ns hlt nr hnr]; iexact HR
  iexact H

/-- Sending message `ns`, which forwards the received message `j`. -/
theorem step_fwd (K : GSem nD τ sig → ℕ) (c : Dev nD) {ns nr nw : ℕ} {α : Type} {Q : α → sProp 𝕄}
    {dv : Dev nD} {off off' : Fin 4 → ℕ} {inb inb'} {s1 s2 : DmaSem sig}
    {hsc : (pieceM off' inb' : Memref sig (Dev.tc dv : Thread nD τ).2.kind .vmem S64x4096 .fp8e4m3).view.ref.isScScratch = false}
    {hsrc : (pieceM off inb).view.WordExact} {hdst : (pieceM off' inb').view.WordExact}
    {hsem : DmaTarget.Typed .vmem (.dma s2) (.remote (Dev.tc dv : Thread nD τ) (pieceM off' inb') (.dma s1) hsc)}
    {k : PUnit → Prog (TpuEff nD τ sig (Elt F) Λ₀ .tc) α}
    (hdv : dv = nb c ns) (hoff : off = ![sslot c ns, pc ns, 0, 0]) (hoff' : off' = ![sslot c ns, pc ns, 0, 0])
    (hs1 : s1 = sS ns) (hs2 : s2 = rS ns) (hlt : ns < 60) (hnw : nw ≤ ns) (hnr : nr ≤ 60) (hf : ∃ j < nr, succ j = ns) :
    St m K c ns nr nw ⊢ iprop((St m K c (ns + 1) nr nw -∗ WP c (k ⟨⟩) Q)
      -∗ WP c (.op (.enqueueDma (pieceM off inb) (.remote (Dev.tc dv : Thread nD τ) (pieceM off' inb') (.dma s1) hsc) (.dma s2) hsrc hdst hsem) k) Q) := by
  obtain ⟨j, hj, hs⟩ := hf
  have hsu := sslot_succ c j (by omega) (by omega)
  rw [hs] at hsu
  have hh : hop ns ≠ 0 := by unfold hop; split <;> omega
  iintro H Hk
  ihave H' := (St_split m K c ns nr nw).1 $$ H
  icases H' with ⟨HR, H⟩
  ihave HR' := (send_filter ns nr j hj hnr hs hlt _) $$ HR
  icases HR' with ⟨Hs, HR⟩
  iapply (step_send' m K c hdv hoff hoff' hs1 hs2 (by omega) hnw) $$ [Hs H]
  · isplitl [Hs]
    · unfold Src GotR shr; rw [if_neg hh, hsu.1, hsu.2.1]; iexact Hs
    iexact H
  iintro H
  iapply Hk
  iapply (St_split m K c (ns + 1) nr nw).2
  isplitl [HR]; · iexact HR
  iexact H

end Cert.Proof.Ring
-- ==== Proof.Regions.lean ====
/-
The parts of the buffers the kernel works on one at a time: which elements each printed window covers, and what a
load, a store or a copy through it reads or leaves, element by element.
-/
module

public import proofs.«01_k».proof.Proof.Steps
public import Idealize.ShloMosaic.Lib.ValueLayout
public import Idealize.ShloMosaic.Lib.Pipeline.Value

@[expose] public section

noncomputable section

namespace Cert.Proof.Ring

open Cert.KernelIdeal Cert.KernelIdeal.Gen

open Idealize.ShloMosaic
open Idealize.ShloMosaic.TcCoe
open Idealize.ShloMosaic.ValueIdx

variable {F : FTy → Type} [FloatOps F]
variable (m : (ℓ : Loc nD τ sig) → Buf (Elt F) ℓ)

/-! ## The windows -/

abbrev xM : Memref sig .tc .hbm S256x4096 .f32 := Memref.whole main_arg0
abbrev wM : Memref sig .tc .hbm S4096x512 .f32 := Memref.whole main_arg1
abbrev resM : Memref sig .tc .hbm S4096x512 .f32 := Memref.whole main_v1
abbrev xsM : Memref sig .tc .vmem S4x64x4096 .f32 := Memref.whole cc0_scratch1
abbrev wsM : Memref sig .tc .vmem S2048x512 .f32 := Memref.whole cc0_scratch2
abbrev w8M : Memref sig .tc .vmem S4096x512 .fp8e5m2 := Memref.whole cc0_scratch3
abbrev osM : Memref sig .tc .vmem S4x256x512 .f32 := Memref.whole cc0_scratch4

/-- Quarter `p` of the left operand's block. -/
abbrev xPart (off : Fin 2 → ℕ) (inb : ∀ a, off a + S64x4096.size a ≤ S256x4096.size a) : Memref sig .tc .hbm S64x4096 .f32 :=
  xM.slice (Rect.unit (s := S256x4096) off S64x4096.size inb) (fun _ => rfl)
/-- The place quarter `p` is copied to. -/
abbrev xsPart (off : Fin 3 → ℕ) (inb : ∀ a, off a + S1x64x4096.size a ≤ S4x64x4096.size a) : Memref sig .tc .vmem S64x4096 .f32 :=
  (xsM.slice (Rect.unit (s := S4x64x4096) off S1x64x4096.size inb) (fun _ => rfl)).squeeze S64x4096 squeezes_S1x64x4096_S64x4096
/-- Half of the right operand's block. -/
abbrev wPart (off : Fin 2 → ℕ) (inb : ∀ a, off a + S2048x512.size a ≤ S4096x512.size a) : Memref sig .tc .hbm S2048x512 .f32 :=
  wM.slice (Rect.unit (s := S4096x512) off S2048x512.size inb) (fun _ => rfl)
/-- A slot of the staged results, -/
abbrev osPart (off : Fin 3 → ℕ) (inb : ∀ a, off a + S1x256x512.size a ≤ S4x256x512.size a) : Memref sig .tc .vmem S256x512 .f32 :=
  (osM.slice (Rect.unit (s := S4x256x512) off S1x256x512.size inb) (fun _ => rfl)).squeeze S256x512 squeezes_S1x256x512_S256x512
/-- and the rows of the result it is copied to. -/
abbrev resPart (off : Fin 2 → ℕ) (inb : ∀ a, off a + S256x512.size a ≤ S4096x512.size a) : Memref sig .tc .hbm S256x512 .f32 :=
  resM.slice (Rect.unit (s := S4096x512) off S256x512.size inb) (fun _ => rfl)

/-! ## Their elements -/

/-- The rows of device `s`'s block in the gathered buffer. -/
def slabSet (s : ℕ) : Finset S16x4x64x4096.Idx := Finset.univ.filter fun x => (x 0).val = s
def xSet (p : ℕ) : Finset S256x4096.Idx := Finset.univ.filter fun x => 64 * p ≤ (x 0).val ∧ (x 0).val < 64 * p + 64
def xsSet (p : ℕ) : Finset S4x64x4096.Idx := Finset.univ.filter fun x => (x 0).val = p
def wSet (h : ℕ) : Finset S4096x512.Idx := Finset.univ.filter fun x => 2048 * h ≤ (x 0).val ∧ (x 0).val < 2048 * h + 2048
def osSet (p : ℕ) : Finset S4x256x512.Idx := Finset.univ.filter fun x => (x 0).val = p
def resSet (s : ℕ) : Finset S4096x512.Idx := Finset.univ.filter fun x => 256 * s ≤ (x 0).val ∧ (x 0).val < 256 * s + 256

theorem rect_rows {n k w : ℕ} (o : ℕ) (inb : ∀ a, (![o, 0] : Fin 2 → ℕ) a + (![k, w] : Fin 2 → ℕ) a ≤ (⟨2, ![n, w]⟩ : Shape).size a) :
    (Rect.unit (s := ⟨2, ![n, w]⟩) ![o, 0] ![k, w] inb).set = Finset.univ.filter fun x : (⟨2, ![n, w]⟩ : Shape).Idx => o ≤ (x 0).val ∧ (x 0).val < o + k := by
  ext x
  rw [Rect.mem_set_unit, Finset.mem_filter]
  constructor
  · intro h
    exact ⟨Finset.mem_univ _, h 0⟩
  · rintro ⟨-, h⟩ a
    match a with
    | ⟨0, _⟩ => exact h
    | ⟨1, _⟩ => exact ⟨Nat.zero_le _, by show (x 1).val < 0 + w; have : (x 1).val < w := (x 1).isLt; omega⟩

theorem rect_lead3 {n k w : ℕ} (o : ℕ) (inb : ∀ a, (![o, 0, 0] : Fin 3 → ℕ) a + (![1, k, w] : Fin 3 → ℕ) a ≤ (⟨3, ![n, k, w]⟩ : Shape).size a) :
    (Rect.unit (s := ⟨3, ![n, k, w]⟩) ![o, 0, 0] ![1, k, w] inb).set = Finset.univ.filter fun x : (⟨3, ![n, k, w]⟩ : Shape).Idx => (x 0).val = o := by
  ext x
  rw [Rect.mem_set_unit, Finset.mem_filter]
  constructor
  · intro h
    have h0 : o ≤ (x 0).val ∧ (x 0).val < o + 1 := h 0
    exact ⟨Finset.mem_univ _, by omega⟩
  · rintro ⟨-, h⟩ a
    match a with
    | ⟨0, _⟩ => show o ≤ (x 0).val ∧ (x 0).val < o + 1; omega
    | ⟨1, _⟩ => exact ⟨Nat.zero_le _, by show (x 1).val < 0 + k; have : (x 1).val < k := (x 1).isLt; omega⟩
    | ⟨2, _⟩ => exact ⟨Nat.zero_le _, by show (x 2).val < 0 + w; have : (x 2).val < w := (x 2).isLt; omega⟩

theorem xPart_set (p : ℕ) (inb) : (xPart ![64 * p, 0] inb).view.set = xSet p := (View.set_slice_whole main_arg0 _).trans (rect_rows _ inb)
theorem xsPart_set (p : ℕ) (inb) : (xsPart ![p, 0, 0] inb).view.set = xsSet p := by
  show ((View.whole (κ := .tc) cc0_scratch1).slice _ |>.reshape S64x4096 _).set = _
  rw [View.set_reshape, View.set_slice_whole]; exact rect_lead3 _ inb
theorem xs_access (p : ℕ) (inb) : (xsM.access (Rect.unit (s := S4x64x4096) ![p, 0, 0] S1x64x4096.size inb)).set = xsSet p :=
  (View.set_slice_whole cc0_scratch1 _).trans (rect_lead3 _ inb)
theorem wPart_set (h : ℕ) (inb) : (wPart ![2048 * h, 0] inb).view.set = wSet h := (View.set_slice_whole main_arg1 _).trans (rect_rows _ inb)
theorem w8_access (h : ℕ) (inb) : (w8M.access (Rect.unit (s := S4096x512) ![2048 * h, 0] S2048x512.size inb)).set = wSet h :=
  (View.set_slice_whole cc0_scratch3 _).trans (rect_rows _ inb)
theorem osPart_set (p : ℕ) (inb) : (osPart ![p, 0, 0] inb).view.set = osSet p := by
  show ((View.whole (κ := .tc) cc0_scratch4).slice _ |>.reshape S256x512 _).set = _
  rw [View.set_reshape, View.set_slice_whole]; exact rect_lead3 _ inb
theorem os_access (p : ℕ) (inb) : (osM.access (Rect.unit (s := S4x256x512) ![p, 0, 0] S1x256x512.size inb)).set = osSet p :=
  (View.set_slice_whole cc0_scratch4 _).trans (rect_lead3 _ inb)
theorem resPart_set (s : ℕ) (inb) : (resPart ![256 * s, 0] inb).view.set = resSet s := (View.set_slice_whole main_v1 _).trans (rect_rows _ inb)

theorem slab_access (s : ℕ) (inb) : (xgM.access (Rect.unit (s := S16x4x64x4096) ![s, 0, 0, 0] S1x4x64x4096.size inb)).set = slabSet s := by
  refine (View.set_slice_whole cc0_scratch0 _).trans ?_
  ext x
  rw [Rect.mem_set_unit]
  unfold slabSet
  rw [Finset.mem_filter]
  constructor
  · intro h
    have h0 : s ≤ (x 0).val ∧ (x 0).val < s + 1 := h 0
    exact ⟨Finset.mem_univ _, by omega⟩
  · rintro ⟨-, h0⟩ a
    match a with
    | ⟨0, _⟩ => show s ≤ (x 0).val ∧ (x 0).val < s + 1; omega
    | ⟨1, _⟩ => exact ⟨Nat.zero_le _, by show (x 1).val < 0 + 4; have : (x 1).val < 4 := (x 1).isLt; omega⟩
    | ⟨2, _⟩ => exact ⟨Nat.zero_le _, by show (x 2).val < 0 + 64; have : (x 2).val < 64 := (x 2).isLt; omega⟩
    | ⟨3, _⟩ => exact ⟨Nat.zero_le _, by show (x 3).val < 0 + 4096; have : (x 3).val < 4096 := (x 3).isLt; omega⟩
theorem piece_access (s p : ℕ) (inb) : (xgM.access (Rect.unit (s := S16x4x64x4096) ![s, p, 0, 0] S1x1x64x4096.size inb)).set = pieceSet s p :=
  (View.set_slice_whole cc0_scratch0 _).trans (rect_piece s p inb)

/-! ## What the products read -/

/-- The narrowed right operand of device `c`. -/
def W8 (c : Dev nD) : Vec F S4096x512 .fp8e5m2 := truncf .fp8e5m2 (warg m c : FVec F S4096x512 .f32) bitsLt_fp8e5m2_f32

theorem slab_inb (s : Fin 16) : ∀ a, (![s.val, 0, 0, 0] : Fin 4 → ℕ) a + S1x4x64x4096.size a ≤ S16x4x64x4096.size a := by
  revert s; decide
/-- What a load of device `s`'s rows of the gathered buffer reads. -/
def slabV (s : Fin 16) : Vec F S1x4x64x4096 .fp8e4m3 :=
  xgM.view.readAt (Elt F) (Rect.unit (s := S16x4x64x4096) ![s.val, 0, 0, 0] S1x4x64x4096.size (slab_inb s)).toLoadRect (gx m)
/-- What a load of the whole narrowed right operand reads. -/
def w8V (c : Dev nD) : Vec F S4096x512 .fp8e5m2 :=
  w8M.view.readAt (Elt F) (Rect.unit (s := S4096x512) ![0, 0] S4096x512.size inb_S4096x512_S4096x512_0_0).toLoadRect (W8 m c)
theorem w8V_eq (c : Dev nD) : w8V m c = W8 m c := by
  unfold w8V
  exact Memref.readAt_unit_zero (Elt F) cc0_scratch3 (funext fun a => by fin_cases a <;> rfl) inb_S4096x512_S4096x512_0_0 (W8 m c)

/-- The rows of device `s`'s block times device `c`'s right operand, scaled by `sc`: as the kernel prints it. -/
def outV (c : Dev nD) (sc : F .f32) (s : Fin 16) : FVec F S1x256x512 .f32 := k0_pay12 sc (slabV m s) (w8V m c)
/-- A slot of the staged results holding them, -/
def osV (c : Dev nD) (sc : F .f32) (s : Fin 16) : Vec F S4x256x512 .f32 := fun i => outV m c sc s (ix3 (0 : Fin 1) (i 1 : Fin 256) (i 2 : Fin 512))
/-- and the whole result of device `c`. -/
def OUT (c : Dev nD) (sc : F .f32) : Vec F S4096x512 .f32 := fun i =>
  outV m c sc ⟨(i 0).val / 256, by have h : (i 0).val < 4096 := (i 0).isLt; omega⟩
    (ix3 (0 : Fin 1) (⟨(i 0).val % 256, Nat.mod_lt _ (by decide)⟩ : Fin 256) (i 1 : Fin 512))

/-- A store of a whole slot leaves its payload there. -/
theorem os_store (c : Dev nD) (sc : F .f32) (s : Fin 16) (p : ℕ) (inb) (f : Vec F S4x256x512 .f32) :
    ∀ i ∈ osSet p, (osM.access (Rect.unit (s := S4x256x512) ![p, 0, 0] S1x256x512.size inb)).write (Elt F) f (outV m c sc s) Finset.univ i = osV m c sc s i := by
  intro i hi
  have h0 : (i 0).val = p := (Finset.mem_filter.mp hi).2
  have e : i = (osM.access (Rect.unit (s := S4x256x512) ![p, 0, 0] S1x256x512.size inb)).emb (ix3 (0 : Fin 1) (i 1 : Fin 256) (i 2 : Fin 512)) := by
    funext a
    refine Fin.ext ?_
    match a with
    | ⟨0, _⟩ => show (i 0).val = p + 1 * 0; omega
    | ⟨1, _⟩ => show (i 1).val = 0 + 1 * (i 1).val; omega
    | ⟨2, _⟩ => show (i 2).val = 0 + 1 * (i 2).val; omega
  conv_lhs => rw [e]
  rw [View.write_emb_of_mem _ _ (Finset.mem_univ _)]
  rfl

/-- Copying a slot to the rows of device `s`'s block leaves the final result there. -/
theorem res_copy (c : Dev nD) (sc : F .f32) (s : Fin 16) (p : ℕ) (inb) (inb' : ∀ a, (![256 * s.val, 0] : Fin 2 → ℕ) a + S256x512.size a ≤ S4096x512.size a) (f : Vec F S4096x512 .f32) :
    ∀ i ∈ resSet s.val, ((resPart ![256 * s.val, 0] inb').view.write (Elt F) f ((osPart ![p, 0, 0] inb).view.read (Elt F) (osV m c sc s)) Finset.univ : Vec F S4096x512 .f32) i
      = OUT m c sc i := by
  intro i hi
  have h0 : 256 * s.val ≤ (i 0).val ∧ (i 0).val < 256 * s.val + 256 := (Finset.mem_filter.mp hi).2
  have e : i = (resPart ![256 * s.val, 0] inb').view.emb (ix2 (⟨(i 0).val % 256, Nat.mod_lt _ (by decide)⟩ : Fin 256) (i 1 : Fin 512)) := by
    funext a
    refine Fin.ext ?_
    match a with
    | ⟨0, _⟩ => show (i 0).val = 256 * s.val + 1 * ((i 0).val % 256); omega
    | ⟨1, _⟩ => show (i 1).val = 0 + 1 * (i 1).val; omega
  conv_lhs => rw [e]
  rw [View.write_emb_of_mem _ _ (Finset.mem_univ _)]
  have hs : s = ⟨(i 0).val / 256, by have h : (i 0).val < 4096 := (i 0).isLt; omega⟩ := Fin.ext (show s.val = (i 0).val / 256 by omega)
  have e1 : (osPart ![p, 0, 0] inb).view.emb (ix2 (⟨(i 0).val % 256, Nat.mod_lt _ (by decide)⟩ : Fin 256) (i 1 : Fin 512))
      = (osM.access (Rect.unit (s := S4x256x512) ![p, 0, 0] S1x256x512.size inb)).emb (ix3 (⟨0, Nat.one_pos⟩ : Fin 1) (⟨(i 0).val % 256, Nat.mod_lt _ (by decide)⟩ : Fin 256) (i 1 : Fin 512)) :=
    congrArg (osM.access (Rect.unit (s := S4x256x512) ![p, 0, 0] S1x256x512.size inb)).emb (reshapeEquiv_ix2_1ab _ _ _)
  show osV m c sc s ((osPart ![p, 0, 0] inb).view.emb (ix2 _ (i 1 : Fin 512))) = _
  rw [e1]
  show outV m c sc s (ix3 (0 : Fin 1) _ _) = outV m c sc _ _
  rw [← hs]
  refine congrArg _ ?_
  funext a
  refine Fin.ext ?_
  match a with
  | ⟨0, _⟩ => rfl
  | ⟨1, _⟩ => show 0 + 1 * ((i 0).val % 256) = (i 0).val % 256; omega
  | ⟨2, _⟩ => show 0 + 1 * (i 1).val = (i 1).val; omega

/-! ## The operands' copies -/

/-- Quarter `p`'s place holding the left operand's rows. -/
def xsV (c : Dev nD) (p : Fin 4) : Vec F S4x64x4096 .f32 := fun i =>
  xarg m c (ix2 (⟨64 * p.val + (i 1).val, by have h : (i 1).val < 64 := (i 1).isLt; omega⟩ : Fin 256) (i 2 : Fin 4096))
/-- Copying quarter `p` of the left operand leaves its rows there. -/
theorem xs_copy (c : Dev nD) (p : Fin 4) (inb inb') (f : Vec F S4x64x4096 .f32) :
    ∀ i ∈ xsSet p.val, (xsPart ![p.val, 0, 0] inb').view.write (Elt F) f ((xPart ![64 * p.val, 0] inb).view.read (Elt F) (xarg m c)) Finset.univ i
      = xsV m c p i := by
  intro i hi
  have h0 : (i 0).val = p.val := (Finset.mem_filter.mp hi).2
  have e : i = (xsPart ![p.val, 0, 0] inb').view.emb (ix2 (i 1 : Fin 64) (i 2 : Fin 4096)) := by
    have e1 : (xsPart ![p.val, 0, 0] inb').view.emb (ix2 (i 1 : Fin 64) (i 2 : Fin 4096))
        = (xsM.access (Rect.unit (s := S4x64x4096) ![p.val, 0, 0] S1x64x4096.size inb')).emb (ix3 (⟨0, Nat.one_pos⟩ : Fin 1) (i 1 : Fin 64) (i 2 : Fin 4096)) :=
      congrArg (xsM.access (Rect.unit (s := S4x64x4096) ![p.val, 0, 0] S1x64x4096.size inb')).emb (reshapeEquiv_ix2_1ab _ _ _)
    rw [e1]
    funext a
    refine Fin.ext ?_
    match a with
    | ⟨0, _⟩ => show (i 0).val = p.val + 1 * 0; omega
    | ⟨1, _⟩ => show (i 1).val = 0 + 1 * (i 1).val; omega
    | ⟨2, _⟩ => show (i 2).val = 0 + 1 * (i 2).val; omega
  conv_lhs => rw [e]
  rw [View.write_emb_of_mem _ _ (Finset.mem_univ _)]
  show xarg m c _ = xarg m c _
  refine congrArg _ ?_
  funext a
  refine Fin.ext ?_
  match a with
  | ⟨0, _⟩ => show 64 * p.val + 1 * (i 1).val = 64 * p.val + (i 1).val; omega
  | ⟨1, _⟩ => show 0 + 1 * (i 2).val = (i 2).val; omega

/-- What a load of quarter `p`'s place reads. -/
def xsL (c : Dev nD) (p : Fin 4) (inb : ∀ a, (![p.val, 0, 0] : Fin 3 → ℕ) a + S1x64x4096.size a ≤ S4x64x4096.size a) : Vec F S1x64x4096 .f32 :=
  xsM.view.readAt (Elt F) (Rect.unit (s := S4x64x4096) ![p.val, 0, 0] S1x64x4096.size inb).toLoadRect (xsV m c p)

/-- Storing the quarter, narrowed, to device `c`'s own place in the gathered buffer leaves the gathered contents there. -/
theorem xg_store (c : Dev nD) (p : Fin 4) (inb inb') (f : Vec F S16x4x64x4096 .fp8e4m3) :
    ∀ i ∈ pieceSet c.val p.val, (xgM.access (Rect.unit (s := S16x4x64x4096) ![c.val, p.val, 0, 0] S1x1x64x4096.size inb)).write (Elt F) f (k0_pay1 (xsL m c p inb')) Finset.univ i
      = gx m i := by
  intro i hi
  have h0 : (i 0).val = c.val ∧ (i 1).val = p.val := (Finset.mem_filter.mp hi).2
  have e : i = (xgM.access (Rect.unit (s := S16x4x64x4096) ![c.val, p.val, 0, 0] S1x1x64x4096.size inb)).emb
      (ix4 (0 : Fin 1) (0 : Fin 1) (i 2 : Fin 64) (i 3 : Fin 4096)) := by
    funext a
    refine Fin.ext ?_
    match a with
    | ⟨0, _⟩ => show (i 0).val = c.val + 1 * 0; omega
    | ⟨1, _⟩ => show (i 1).val = p.val + 1 * 0; omega
    | ⟨2, _⟩ => show (i 2).val = 0 + 1 * (i 2).val; omega
    | ⟨3, _⟩ => show (i 3).val = 0 + 1 * (i 3).val; omega
  conv_lhs => rw [e]
  rw [View.write_emb_of_mem _ _ (Finset.mem_univ _)]
  show shapeCast S1x1x64x4096 (shapeCast S1x1x64x4096 (truncf .fp8e4m3 (shapeCast S64x4096 (xsL m c p inb') _ : FVec F S64x4096 .f32) _) _) _ _ = _
  rw [shapeCast_self]
  refine (shapeCast_apply _ _ _ (ix2 (i 2 : Fin 64) (i 3 : Fin 4096)) (by
    rw [Shape.rowMajor_val_four, Shape.rowMajor_val_two]
    show (i 2).val * 4096 + (i 3).val = ((0 * 1 + 0) * 64 + (i 2).val) * 4096 + (i 3).val
    omega)).trans ?_
  show FloatOps.truncf (.fp8e4m3 : FTy) bitsLt_fp8e4m3_f32 (shapeCast S64x4096 (xsL m c p inb') _ (ix2 (i 2 : Fin 64) (i 3 : Fin 4096))) = FloatOps.truncf (.fp8e4m3 : FTy) bitsLt_fp8e4m3_f32 _
  refine congrArg _ ?_
  refine (shapeCast_1ab_ab_apply _ _ (i 2 : Fin 64) (i 3 : Fin 4096)).trans ?_
  show xarg m c _ = xarg m _ _
  have hc : c = (⟨(i 0).val, (i 0).isLt⟩ : Dev nD) := Fin.ext h0.1.symm
  rw [← hc]
  refine congrArg _ ?_
  funext a
  refine Fin.ext ?_
  match a with
  | ⟨0, _⟩ => show 64 * p.val + (0 + 1 * (i 2).val) = 64 * (i 1).val + (i 2).val; omega
  | ⟨1, _⟩ => show 0 + 1 * (i 3).val = (i 3).val; omega

/-- The staging buffer holding half `h` of the right operand. -/
def wsV (c : Dev nD) (h : Fin 2) : Vec F S2048x512 .f32 := fun i =>
  warg m c (ix2 (⟨2048 * h.val + (i 0).val, by have h' : (i 0).val < 2048 := (i 0).isLt; omega⟩ : Fin 4096) (i 1 : Fin 512))
/-- Copying half `h` of the right operand leaves it there. -/
theorem ws_copy (c : Dev nD) (h : Fin 2) (inb) (f : Vec F S2048x512 .f32) :
    wsM.view.write (Elt F) f ((wPart ![2048 * h.val, 0] inb).view.read (Elt F) (warg m c)) Finset.univ = wsV m c h := by
  refine (View.write_whole_univ cc0_scratch2 f _).trans ?_
  funext i
  show warg m c _ = warg m c _
  refine congrArg _ ?_
  funext a
  refine Fin.ext ?_
  match a with
  | ⟨0, _⟩ => show 2048 * h.val + 1 * (i 0).val = 2048 * h.val + (i 0).val; omega
  | ⟨1, _⟩ => show 0 + 1 * (i 1).val = (i 1).val; omega
/-- A load of it reads it. -/
theorem ws_load (c : Dev nD) (h : Fin 2) : wsM.view.readAt (Elt F) (Rect.unit (s := S2048x512) ![0, 0] S2048x512.size inb_S2048x512_S2048x512_0_0).toLoadRect (wsV m c h) = wsV m c h :=
  Memref.readAt_unit_zero (Elt F) cc0_scratch2 (funext fun a => by fin_cases a <;> rfl) inb_S2048x512_S2048x512_0_0 (wsV m c h)
/-- Storing it, narrowed, leaves the narrowed right operand on that half. -/
theorem w8_store (c : Dev nD) (h : Fin 2) (inb : ∀ a, (![2048 * h.val, 0] : Fin 2 → ℕ) a + S2048x512.size a ≤ S4096x512.size a) (f : Vec F S4096x512 .fp8e5m2) :
    ∀ i ∈ wSet h.val, ((w8M.access (Rect.unit (s := S4096x512) ![2048 * h.val, 0] S2048x512.size inb)).write (Elt F) f (k0_pay6 (wsV m c h)) Finset.univ : Vec F S4096x512 .fp8e5m2) i = W8 m c i := by
  intro i hi
  have h0 : 2048 * h.val ≤ (i 0).val ∧ (i 0).val < 2048 * h.val + 2048 := (Finset.mem_filter.mp hi).2
  have e : i = (w8M.access (Rect.unit (s := S4096x512) ![2048 * h.val, 0] S2048x512.size inb)).emb
      (ix2 (⟨(i 0).val - 2048 * h.val, by omega⟩ : Fin 2048) (i 1 : Fin 512)) := by
    funext a
    refine Fin.ext ?_
    match a with
    | ⟨0, _⟩ => show (i 0).val = 2048 * h.val + 1 * ((i 0).val - 2048 * h.val); omega
    | ⟨1, _⟩ => show (i 1).val = 0 + 1 * (i 1).val; omega
  conv_lhs => rw [e]
  rw [View.write_emb_of_mem _ _ (Finset.mem_univ _)]
  show shapeCast S2048x512 (truncf .fp8e5m2 (wsV m c h : FVec F S2048x512 .f32) _) _ _ = _
  rw [shapeCast_self]
  show FloatOps.truncf (.fp8e5m2 : FTy) bitsLt_fp8e5m2_f32 (warg m c _) = FloatOps.truncf (.fp8e5m2 : FTy) bitsLt_fp8e5m2_f32 (warg m c _)
  refine congrArg _ (congrArg _ ?_)
  funext a
  refine Fin.ext ?_
  match a with
  | ⟨0, _⟩ => show 2048 * h.val + ((i 0).val - 2048 * h.val) = (i 0).val; omega
  | ⟨1, _⟩ => rfl

end Cert.Proof.Ring
-- ==== Proof.Compute.lean ====
/-
The state of a device between two operations of the kernel, as far as its own products go: the narrowed right operand,
its own pieces, the staged results and their copies to the result, and what one operation does to it.
-/
module

public import proofs.«01_k».proof.Proof.Regions

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Steps on the second of two states, or on both -/

theorem lift₂ {S P P' R A B : sProp 𝕄} (h : P ⊢ iprop((P' -∗ A) -∗ B)) (h' : iprop(S ∗ P' ∗ R) ⊢ A) : iprop(S ∗ P ∗ R) ⊢ B := by
  iintro ⟨HS, HP, HR⟩
  iapply h $$ HP
  iintro HP'
  iapply h'
  isplitl [HS]; · iexact HS
  isplitl [HP']; · iexact HP'
  iexact HR

theorem lift_both {S S' P P' R A B : sProp 𝕄} (h : iprop(S ∗ P) ⊢ iprop((iprop(S' ∗ P') -∗ A) -∗ B)) (h' : iprop(S' ∗ P' ∗ R) ⊢ A) :
    iprop(S ∗ P ∗ R) ⊢ B := by
  iintro ⟨HS, HP, HR⟩
  iapply h $$ [HS HP]
  · isplitl [HS]; · iexact HS
    iexact HP
  iintro ⟨HS, HP⟩
  iapply h'
  isplitl [HS]; · iexact HS
  isplitl [HP]; · iexact HP
  iexact HR

/-! ## The slabs, in the order the kernel multiplies them -/

/-- The device whose block the kernel of device `c` multiplies `j`-th. -/
def oslot (c : Dev nD) (j : ℕ) : Fin 16 :=
  ⟨(if j % 2 = 1 then c.val + 16 - (j + 1) / 2 else c.val + j / 2) % 16, Nat.mod_lt _ (by decide)⟩
/-- The message that brings quarter `p` of it (`j` positive). -/
def mi (j p : ℕ) : ℕ := if j < 15 then 8 * ((j - 1) / 2) + 2 * p + (j - 1) % 2 else 56 + p

theorem oslot_zero (c : Dev nD) : (oslot c 0).val = c.val := by revert c; decide
theorem oslot_inj : ∀ c : Dev nD, ∀ i < 16, ∀ j < 16, oslot c i = oslot c j → i = j := by decide +kernel
theorem mi_spec : ∀ c : Dev nD, ∀ j < 16, 1 ≤ j → ∀ p < 4, mi j p < 60 ∧ rslot c (mi j p) = (oslot c j).val ∧ pc (mi j p) = p := by decide +kernel

set_option backward.proofsInPublic true in
/-- The semaphore the `j`-th copy to the result completes on. -/
def oS (j : ℕ) : DmaSem sig := (⟨(135 + j % 4) % 139, Nat.mod_lt _ (by decide)⟩ : Fin 139)
theorem oS_add (j : ℕ) : oS (j + 4) = oS j := by refine Fin.ext ?_; show (135 + (j + 4) % 4) % 139 = (135 + j % 4) % 139; rw [Nat.add_mod_right]

/-- The credit of one copy to the result. -/
def NO : ℕ := (resM.slice (Rect.unit (s := S4096x512) ![0, 0] S256x512.size (by decide)) (fun _ => rfl) : Memref sig .tc .hbm S256x512 .f32).view.dmaCredit
theorem NO_pos : 0 < NO := View.dmaCredit_pos _ (by decide)

/-! ## The state -/

/-- The half of an own piece the products read. -/
def OwnL (c : Dev nD) (p : ℕ) : sProp 𝕄 := pce c c.val p fullShare.left (gx m)
/-- A slot of the staged results at contents `f`. -/
def slotAt (c : Dev nD) (p : ℕ) (f : Vec F S4x256x512 .f32) : sProp 𝕄 := ((c : Thread nD τ).loc cc0_scratch4) ↦[osSet p]{fullShare} f
/-- The rows of device `s`'s block of the result at contents `f`. -/
def rowsAt (c : Dev nD) (s : ℕ) (f : Vec F S4096x512 .f32) : sProp 𝕄 := ((c : Thread nD τ).loc main_v1) ↦[resSet s]{fullShare} f

def OutRaw (c : Dev nD) (j : ℕ) : sProp 𝕄 := iprop(∃ f, rowsAt (F := F) c (oslot c j).val f)
def OutDone (c : Dev nD) (sc : F .f32) (j : ℕ) : sProp 𝕄 := rowsAt c (oslot c j).val (OUT m c sc)
def OutFl (c : Dev nD) (sc : F .f32) (j : ℕ) : sProp 𝕄 :=
  Flight EC (c : Thread nD τ) (.dma (oS j)) () NO iprop(OutDone m c sc j ∗ ∃ f, slotAt c (j % 4) f)
def Free (c : Dev nD) (j : ℕ) : sProp 𝕄 := iprop((∃ f, slotAt (F := F) c (j % 4) f) ∗ semVal ((c : Thread nD τ), .dma (oS j)) 0)
def Held (c : Dev nD) (sc : F .f32) (j : ℕ) : sProp 𝕄 := iprop(slotAt c (j % 4) (osV m c sc (oslot c j)) ∗ semVal ((c : Thread nD τ), .dma (oS j)) 0)
def W8at (c : Dev nD) : sProp 𝕄 := ((c : Thread nD τ).loc cc0_scratch3) ↦{fullShare} (W8 m c)

/-- Device `c` after `nO` copies to the result have started and it has waited for the first `nW`. -/
def Cm (c : Dev nD) (sc : F .f32) (nO nW : ℕ) : sProp 𝕄 :=
  iprop(W8at m c ∗ bigSep (Finset.Ico 0 4) (OwnL m c) ∗ bigSep (Finset.Ico nO 16) (OutRaw c)
    ∗ bigSep (Finset.Ico nW nO) (OutFl m c sc) ∗ bigSep (Finset.Ico 0 nW) (OutDone m c sc) ∗ bigSep (Finset.Ico nO (nW + 4)) (Free c))
/-- The same, the next result staged. -/
def CmH (c : Dev nD) (sc : F .f32) (nO nW : ℕ) : sProp 𝕄 :=
  iprop(W8at m c ∗ bigSep (Finset.Ico 0 4) (OwnL m c) ∗ bigSep (Finset.Ico nO 16) (OutRaw c)
    ∗ bigSep (Finset.Ico nW nO) (OutFl m c sc) ∗ bigSep (Finset.Ico 0 nW) (OutDone m c sc) ∗ Held m c sc nO ∗ bigSep (Finset.Ico (nO + 1) (nW + 4)) (Free c))

/-! ## Loads -/

/-- Four pieces of one slab are the slab. -/
theorem slab_pieces (c : Dev nD) (s : ℕ) (q : PosShare TreeShare) (f : Vec F S16x4x64x4096 .fp8e4m3) :
    bigSep (Finset.Ico 0 4) (fun p => pce c s p q f) = (((c : Thread nD τ).loc cc0_scratch0) ↦[slabSet s]{q} f : sProp 𝕄) := by
  have e : slabSet s = (Finset.Ico 0 4).biUnion (pieceSet s) := by
    ext x
    simp only [slabSet, pieceSet, Finset.mem_filter, Finset.mem_biUnion, Finset.mem_univ, true_and, Finset.mem_Ico]
    constructor
    · intro h
      exact ⟨(x 1).val, ⟨Nat.zero_le _, (x 1).isLt⟩, h, rfl⟩
    · rintro ⟨p, -, h, -⟩; exact h
  rw [e, pointsTo_biUnion]
  · rfl
  · intro t _ t' _ ht
    refine Finset.disjoint_left.mpr fun x h h' => ht ?_
    rw [pieceSet, Finset.mem_filter] at h h'
    omega

theorem mi_inj (j : ℕ) (p p' : ℕ) (h : mi j p = mi j p') : p = p' := by
  unfold mi at h; split at h <;> omega

/-- Of the pieces received, the four of the `j`-th slab, and the others. -/
theorem slab_split (c : Dev nD) (j nr : ℕ) (hj : j < 16) (hj1 : 1 ≤ j) (hr : ∀ p < 4, mi j p < nr) :
    bigSep (Finset.Ico 0 nr) (GotL m c) = iprop((((c : Thread nD τ).loc cc0_scratch0) ↦[slabSet (oslot c j).val]{fullShare.left} (gx m))
      ∗ bigSep (Finset.Ico 0 nr \ (Finset.Ico 0 4).image (mi j)) (GotL m c)) := by
  have hs : (Finset.Ico 0 4).image (mi j) ⊆ Finset.Ico 0 nr := by
    intro x hx
    obtain ⟨p, hp, rfl⟩ := Finset.mem_image.mp hx
    rw [Finset.mem_Ico] at hp ⊢
    exact ⟨Nat.zero_le _, hr p hp.2⟩
  rw [bigSep_sdiff_split hs, ← slab_pieces]
  congr 1
  have e : (Finset.Ico 0 4).image (mi j) = (Finset.Ico 0 4).map ⟨mi j, fun p p' h => mi_inj j p p' h⟩ := by
    rw [Finset.map_eq_image]; rfl
  rw [e, bigSep_map]
  refine bigSep_congr fun p hp => ?_
  rw [Finset.mem_Ico] at hp
  obtain ⟨-, h1, h2⟩ := mi_spec c j hj hj1 p hp.2
  show GotL m c (mi j p) = _
  unfold GotL
  rw [h1, h2]

variable (K : GSem nD τ sig → ℕ) (c : Dev nD) (sc : F .f32)

/-- Loading the `j`-th slab, of received pieces. -/
theorem step_slab {ns nr nw j : ℕ} {α : Type} {Q : α → sProp 𝕄} {off : Fin 4 → ℕ} {inb} {hl}
    {k : Vec F S1x4x64x4096 .fp8e4m3 → Prog (TpuEff nD τ sig (Elt F) Λ₀ .tc) α}
    (hoff : off = ![(oslot c j).val, 0, 0, 0]) (hj : j < 16) (hj1 : 1 ≤ j) (hr : ∀ p < 4, mi j p < nr) :
    St m K c ns nr nw ⊢ iprop((St m K c ns nr nw -∗ WP c (k (slabV m (oslot c j))) Q)
      -∗ WP c (.op (.load xgM (Rect.unit (s := S16x4x64x4096) off S1x4x64x4096.size inb).toLoadRect hl) k) Q) := by
  subst hoff
  unfold St
  rw [slab_split m c j nr hj hj1 hr]
  iintro ⟨HK, Hlev, HO, HS, HR, HT, HP, ⟨Hsl, HL⟩, HRt, HSrc, HZ, HSZ⟩ Hk
  iapply (wp_load_rect 𝒱₀ (c : Thread nD τ) none Set.univ (m := xgM) (r := Rect.unit (s := S16x4x64x4096) ![(oslot c j).val, 0, 0, 0] S1x4x64x4096.size inb)
    (f := gx m) (q := fullShare.left) (by rw [slab_access])) $$ Hsl
  iintro Hsl
  iapply Hk
  isplitl [HK]; · iexact HK
  isplitl [Hlev]; · iexact Hlev
  isplitl [HO]; · iexact HO
  isplitl [HS]; · iexact HS
  isplitl [HR]; · iexact HR
  isplitl [HT]; · iexact HT
  isplitl [HP]; · iexact HP
  isplitl [Hsl HL]
  · isplitl [Hsl]; · iexact Hsl
    iexact HL
  isplitl [HRt]; · iexact HRt
  isplitl [HSrc]; · iexact HSrc
  isplitl [HZ]; · iexact HZ
  iexact HSZ

/-- Loading the device's own slab. -/
theorem step_slab_own {nO nW : ℕ} {α : Type} {Q : α → sProp 𝕄} {off : Fin 4 → ℕ} {inb} {hl}
    {k : Vec F S1x4x64x4096 .fp8e4m3 → Prog (TpuEff nD τ sig (Elt F) Λ₀ .tc) α}
    (hoff : off = ![(oslot c 0).val, 0, 0, 0]) :
    Cm m c sc nO nW ⊢ iprop((Cm m c sc nO nW -∗ WP c (k (slabV m (oslot c 0))) Q)
      -∗ WP c (.op (.load xgM (Rect.unit (s := S16x4x64x4096) off S1x4x64x4096.size inb).toLoadRect hl) k) Q) := by
  subst hoff
  have e : bigSep (Finset.Ico 0 4) (OwnL m c) = (((c : Thread nD τ).loc cc0_scratch0) ↦[slabSet (oslot c 0).val]{fullShare.left} (gx m) : sProp 𝕄) := by
    rw [← slab_pieces, oslot_zero]; rfl
  unfold Cm
  rw [e]
  iintro ⟨HW, Hsl, H⟩ Hk
  iapply (wp_load_rect 𝒱₀ (c : Thread nD τ) none Set.univ (m := xgM) (r := Rect.unit (s := S16x4x64x4096) ![(oslot c 0).val, 0, 0, 0] S1x4x64x4096.size inb)
    (f := gx m) (q := fullShare.left) (by rw [slab_access])) $$ Hsl
  iintro Hsl
  iapply Hk
  isplitl [HW]; · iexact HW
  isplitl [Hsl]; · iexact Hsl
  iexact H

/-- Loading the narrowed right operand. -/
theorem step_w8 {nO nW : ℕ} {α : Type} {Q : α → sProp 𝕄} {hl}
    {k : Vec F S4096x512 .fp8e5m2 → Prog (TpuEff nD τ sig (Elt F) Λ₀ .tc) α} :
    Cm m c sc nO nW ⊢ iprop((Cm m c sc nO nW -∗ WP c (k (w8V m c)) Q)
      -∗ WP c (.op (.load w8M (Rect.unit (s := S4096x512) ![0, 0] S4096x512.size inb_S4096x512_S4096x512_0_0).toLoadRect hl) k) Q) := by
  unfold Cm W8at
  iintro ⟨HW, H⟩ Hk
  iapply (wp_load_rect 𝒱₀ (c : Thread nD τ) none Set.univ (m := w8M) (r := Rect.unit (s := S4096x512) ![0, 0] S4096x512.size inb_S4096x512_S4096x512_0_0)
    (f := W8 m c) (q := fullShare) (Finset.subset_univ _)) $$ HW
  iintro HW
  iapply Hk
  isplitl [HW]; · iexact HW
  iexact H

/-- Loading the slot about to be written; its contents are not used. -/
theorem step_ld {nO nW : ℕ} {α : Type} {Q : α → sProp 𝕄} {off : Fin 3 → ℕ} {inb} {hl} {S R : sProp 𝕄}
    {k : Vec F S1x256x512 .f32 → Prog (TpuEff nD τ sig (Elt F) Λ₀ .tc) α}
    (hoff : off = ![nO % 4, 0, 0]) (hlt : nO < nW + 4) (h : ∀ v, iprop(S ∗ Cm m c sc nO nW ∗ R) ⊢ WP c (k v) Q) :
    iprop(S ∗ Cm m c sc nO nW ∗ R) ⊢ WP c (.op (.load osM (Rect.unit (s := S4x256x512) off S1x256x512.size inb).toLoadRect hl) k) Q := by
  subst hoff
  iintro ⟨HS, HC, HR⟩
  unfold Cm
  icases HC with ⟨HW, HL, HA, HB, HD, HE⟩
  ihave HE' := (ico_bot hlt _) $$ HE
  icases HE' with ⟨He, HE⟩
  unfold Free slotAt
  icases He with ⟨⟨%f, Hf⟩, Hz⟩
  iapply (wp_load_rect 𝒱₀ (c : Thread nD τ) none Set.univ (m := osM) (r := Rect.unit (s := S4x256x512) ![nO % 4, 0, 0] S1x256x512.size inb)
    (f := f) (q := fullShare) (by rw [os_access])) $$ Hf
  iintro Hf
  iapply (h _)
  isplitl [HS]; · iexact HS
  isplitr [HR]
  · unfold Cm
    isplitl [HW]; · iexact HW
    isplitl [HL]; · iexact HL
    isplitl [HA]; · iexact HA
    isplitl [HB]; · iexact HB
    isplitl [HD]; · iexact HD
    iapply (Entails.of_eq (bigSep_Ico_succ_bot hlt _).symm)
    isplitl [Hf Hz]
    · unfold Free slotAt
      isplitl [Hf]; · iexists f; iexact Hf
      iexact Hz
    iexact HE
  iexact HR

/-- Staging the next result. -/
theorem step_st {nO nW : ℕ} {α : Type} {Q : α → sProp 𝕄} {off : Fin 3 → ℕ} {inb} {w : Vec F S1x256x512 .f32} {hx hm}
    {k : PUnit → Prog (TpuEff nD τ sig (Elt F) Λ₀ .tc) α}
    (hoff : off = ![nO % 4, 0, 0]) (hw : w = outV m c sc (oslot c nO)) (hlt : nO < nW + 4) :
    Cm m c sc nO nW ⊢ iprop((CmH m c sc nO nW -∗ WP c (k ⟨⟩) Q)
      -∗ WP c (.op (.store osM (Rect.unit (s := S4x256x512) off S1x256x512.size inb) w Finset.univ hx hm) k) Q) := by
  subst hoff hw
  unfold Cm CmH
  iintro ⟨HW, HL, HA, HB, HD, HE⟩ Hk
  ihave HE' := (ico_bot hlt _) $$ HE
  icases HE' with ⟨He, HE⟩
  unfold Free slotAt
  icases He with ⟨⟨%f, Hf⟩, Hz⟩
  iapply (wp_store 𝒱₀ (c : Thread nD τ) none Set.univ (m := osM) (r := Rect.unit (s := S4x256x512) ![nO % 4, 0, 0] S1x256x512.size inb)
    (f := f) (S := osSet (nO % 4)) (by rw [View.setOn_univ, os_access])) $$ Hf
  iintro Hf
  iapply Hk
  isplitl [HW]; · iexact HW
  isplitl [HL]; · iexact HL
  isplitl [HA]; · iexact HA
  isplitl [HB]; · iexact HB
  isplitl [HD]; · iexact HD
  isplitl [Hf Hz]
  · unfold Held slotAt
    isplitl [Hf]
    · iapply (Entails.of_eq (pointsTo_congr (os_store m c sc (oslot c nO) (nO % 4) inb f))); iexact Hf
    iexact Hz
  iexact HE

/-- Starting its copy to the result. -/
theorem step_out {nO nW : ℕ} {α : Type} {Q : α → sProp 𝕄} {off : Fin 3 → ℕ} {off' : Fin 2 → ℕ} {inb inb'} {sm : DmaSem sig}
    {hsrc : (osPart off inb).view.WordExact} {hdst : (resPart off' inb').view.WordExact}
    {hsem : DmaTarget.Typed (nD := nD) (τ := τ) (p := .tc) .vmem (.dma sm) (.here (resPart off' inb'))}
    {k : PUnit → Prog (TpuEff nD τ sig (Elt F) Λ₀ .tc) α}
    (hoff : off = ![nO % 4, 0, 0]) (hoff' : off' = ![256 * (oslot c nO).val, 0]) (hsm : sm = oS nO) (hlt : nO < 16) (hW : nW ≤ nO) :
    CmH m c sc nO nW ⊢ iprop((Cm m c sc (nO + 1) nW -∗ WP c (k ⟨⟩) Q)
      -∗ WP c (.op (.enqueueDma (osPart off inb) (.here (resPart off' inb')) (.dma sm) hsrc hdst hsem) k) Q) := by
  subst hoff hoff' hsm
  unfold Cm CmH
  iintro ⟨HW, HL, HA, HB, HD, Hh, HE⟩ Hk
  ihave HA' := (ico_bot hlt _) $$ HA
  icases HA' with ⟨Ha, HA⟩
  unfold OutRaw Held slotAt rowsAt
  icases Ha with ⟨%fd, Hd⟩
  icases Hh with ⟨Hs, Hz⟩
  iapply (wp_dmaLocal EC 𝒱₀ (c : Thread nD τ) none (src := osPart ![nO % 4, 0, 0] inb) (dst := resPart ![256 * (oslot c nO).val, 0] inb')
    (q := fullShare) (fs := osV m c sc (oslot c nO)) (Sd := resSet (oslot c nO).val) (fd := fd) () NO rfl NO_pos (by rw [resPart_set])) $$ [Hs Hd Hz]
  · isplitl [Hs]; · rw [osPart_set]; iexact Hs
    isplitl [Hd]; · iexact Hd
    iexact Hz
  iintro Hfl
  iapply Hk
  isplitl [HW]; · iexact HW
  isplitl [HL]; · iexact HL
  isplitl [HA]; · iexact HA
  isplitl [HB Hfl]
  · iapply (ico_top hW _)
    isplitl [Hfl]
    · unfold OutFl
      iapply (Flight_mono EC (c : Thread nD τ) (D' := iprop(OutDone m c sc nO ∗ ∃ f, slotAt c (nO % 4) f)) ?_) $$ Hfl
      unfold OutDone rowsAt slotAt
      rw [osPart_set]
      iintro ⟨H1, H2⟩
      isplitl [H1]
      · iapply (Entails.of_eq (pointsTo_congr (res_copy m c sc (oslot c nO) (nO % 4) inb inb' fd))); iexact H1
      iexists _; iexact H2
    iexact HB
  isplitl [HD]; · iexact HD
  iexact HE

/-- Waiting for a copy to the result to complete. -/
theorem step_owait {ns nr nw nO nW : ℕ} {α : Type} {Q : α → sProp 𝕄}
    {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (hsm : sm = oS nW) (hN : v'.view.dmaCredit = NO) (hlt : nW < nO) (hO : nO ≤ nW + 4) :
    iprop(St m K c ns nr nw ∗ Cm m c sc nO nW) ⊢ iprop((iprop(St m K c ns nr nw ∗ Cm m c sc nO (nW + 1)) -∗ WP c (k ⟨⟩) Q)
      -∗ WP c (.op (.waitDma2 sm v v' h1 h2) k) Q) := by
  subst hsm
  unfold St Cm
  iintro ⟨⟨HK, #Hlev, ⟨%W, HO⟩, HS⟩, HW, HL, HA, HB, HD, HE⟩ Hk
  ihave HB' := (ico_bot hlt _) $$ HB
  icases HB' with ⟨Hb, HB⟩
  unfold OutFl
  iapply (wp_waitLocalO EC 𝒱₀ (c : Thread nD τ) none () (N := NO) hN (O := owedR c ns) (W := W)) $$ [Hb HO]
  · isplitl [Hb]; · iexact Hb
    isplitl [HO]; · iexact HO
    iapply (mayWait_of c _ 0 (by show lvS ((135 + nW % 4) % 139) ≤ _
                                 have h : nW % 4 < 4 := Nat.mod_lt _ (by decide)
                                 unfold lvS; rw [if_neg (by omega), if_neg (by omega)]) _ (above_mono (Nat.zero_le _) (above_owedR c ns)))
    iexact Hlev
  iintro ⟨⟨Hd, Hf⟩, Hz, HO⟩
  iapply Hk
  isplitl [HK HO HS]
  · isplitl [HK]; · iexact HK
    isplitr; · iexact Hlev
    isplitl [HO]; · iexists _; iexact HO
    iexact HS
  isplitl [HW]; · iexact HW
  isplitl [HL]; · iexact HL
  isplitl [HA]; · iexact HA
  isplitl [HB]; · iexact HB
  isplitl [HD Hd]
  · iapply (ico_top (Nat.zero_le _) _); isplitl [Hd]; · iexact Hd
    iexact HD
  rw [show nW + 1 + 4 = (nW + 4) + 1 by omega]
  iapply (ico_top hO _)
  isplitl [Hf Hz]
  · unfold Free
    rw [oS_add, Nat.add_mod_right]
    isplitl [Hf]; · iexact Hf
    iexact Hz
  iexact HE

end Cert.Proof.Ring
-- ==== Proof.Startup.lean ====
/-
The state of a device while it starts up: the copies of its operands in, the barrier, its own pieces and the narrowed
right operand, and what one operation does to it.
-/
module

public import proofs.«01_k».proof.Proof.Compute

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Steps on one or two of the parts of a state -/

theorem lift₃ {S X P P' R A B : sProp 𝕄} (h : P ⊢ iprop((P' -∗ A) -∗ B)) (h' : iprop(S ∗ X ∗ P' ∗ R) ⊢ A) : iprop(S ∗ X ∗ P ∗ R) ⊢ B := by
  iintro ⟨HS, HX, HP, HR⟩
  iapply h $$ HP
  iintro HP'
  iapply h'
  isplitl [HS]; · iexact HS
  isplitl [HX]; · iexact HX
  isplitl [HP']; · iexact HP'
  iexact HR

theorem lift₄ {S X Y P P' R A B : sProp 𝕄} (h : P ⊢ iprop((P' -∗ A) -∗ B)) (h' : iprop(S ∗ X ∗ Y ∗ P' ∗ R) ⊢ A) : iprop(S ∗ X ∗ Y ∗ P ∗ R) ⊢ B := by
  iintro ⟨HS, HX, HY, HP, HR⟩
  iapply h $$ HP
  iintro HP'
  iapply h'
  isplitl [HS]; · iexact HS
  isplitl [HX]; · iexact HX
  isplitl [HY]; · iexact HY
  isplitl [HP']; · iexact HP'
  iexact HR

theorem lift_both₃ {S S' X P P' R A B : sProp 𝕄} (h : iprop(S ∗ P) ⊢ iprop((iprop(S' ∗ P') -∗ A) -∗ B)) (h' : iprop(S' ∗ X ∗ P' ∗ R) ⊢ A) :
    iprop(S ∗ X ∗ P ∗ R) ⊢ B := by
  iintro ⟨HS, HX, HP, HR⟩
  iapply h $$ [HS HP]
  · isplitl [HS]; · iexact HS
    iexact HP
  iintro ⟨HS, HP⟩
  iapply h'
  isplitl [HS]; · iexact HS
  isplitl [HX]; · iexact HX
  isplitl [HP]; · iexact HP
  iexact HR

theorem lift_both₄ {S S' X Y P P' R A B : sProp 𝕄} (h : iprop(S ∗ P) ⊢ iprop((iprop(S' ∗ P') -∗ A) -∗ B)) (h' : iprop(S' ∗ X ∗ Y ∗ P' ∗ R) ⊢ A) :
    iprop(S ∗ X ∗ Y ∗ P ∗ R) ⊢ B := by
  iintro ⟨HS, HX, HY, HP, HR⟩
  iapply h $$ [HS HP]
  · isplitl [HS]; · iexact HS
    iexact HP
  iintro ⟨HS, HP⟩
  iapply h'
  isplitl [HS]; · iexact HS
  isplitl [HX]; · iexact HX
  isplitl [HY]; · iexact HY
  isplitl [HP]; · iexact HP
  iexact HR

/-! ## A wait for a local copy, the messages' state at hand -/

/-- Waiting for a local copy to complete while owing what the messages not yet sent will bring. -/
theorem step_lwait (K : GSem nD τ sig → ℕ) (c : Dev nD) {ns nr nw n : ℕ} {D : sProp 𝕄} {α : Type} {Q : α → sProp 𝕄}
    {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (hN : v'.view.dmaCredit = n) (hlv : lv ((c : Thread nD τ), .dma sm) () ≤ 0) :
    iprop(St m K c ns nr nw ∗ Flight EC (c : Thread nD τ) (.dma sm) () n D)
      ⊢ iprop((iprop(St m K c ns nr nw ∗ D ∗ semVal ((c : Thread nD τ), .dma sm) 0) -∗ WP c (k ⟨⟩) Q)
      -∗ WP c (.op (.waitDma2 sm v v' h1 h2) k) Q) := by
  unfold St
  iintro ⟨⟨HK, #Hlev, ⟨%W, HO⟩, HS⟩, Hb⟩ Hk
  iapply (wp_waitLocalO EC 𝒱₀ (c : Thread nD τ) none () (N := n) hN (O := owedR c ns) (W := W)) $$ [Hb HO]
  · isplitl [Hb]; · iexact Hb
    isplitl [HO]; · iexact HO
    iapply (mayWait_of c _ 0 hlv _ (above_mono (Nat.zero_le _) (above_owedR c ns)))
    iexact Hlev
  iintro ⟨HD, Hz, HO⟩
  iapply Hk
  isplitl [HK HO HS]
  · isplitl [HK]; · iexact HK
    isplitr; · iexact Hlev
    isplitl [HO]; · iexists _; iexact HO
    iexact HS
  isplitl [HD]; · iexact HD
  iexact Hz

/-! ## The left operand's copies -/

/-- The number of a quarter, -/
def pq (p : ℕ) : Fin 4 := ⟨p % 4, Nat.mod_lt _ (by decide)⟩
/-- and of a half. -/
def hq (h : ℕ) : Fin 2 := ⟨h % 2, Nat.mod_lt _ (by decide)⟩

set_option backward.proofsInPublic true in
/-- The semaphore the copy of quarter `p` completes on, -/
def xS (p : ℕ) : DmaSem sig := (⟨(130 + p % 4) % 139, Nat.mod_lt _ (by decide)⟩ : Fin 139)
set_option backward.proofsInPublic true in
/-- and the one of the right operand's copies. -/
def wS : DmaSem sig := (⟨134, by decide⟩ : Fin 139)

theorem xs_inb (p : Fin 4) : ∀ a, (![p.val, 0, 0] : Fin 3 → ℕ) a + S1x64x4096.size a ≤ S4x64x4096.size a := by revert p; decide

def NX : ℕ := (xsPart ![0, 0, 0] (by decide)).view.dmaCredit
theorem NX_pos : 0 < NX := View.dmaCredit_pos _ (by decide)
def NW : ℕ := wsM.view.dmaCredit
theorem NW_pos : 0 < NW := View.dmaCredit_pos _ (by decide)

/-- Quarter `p` of the left operand's block, -/
def XRows (c : Dev nD) (p : ℕ) : sProp 𝕄 := ((c : Thread nD τ).loc main_arg0) ↦[xSet (pq p).val]{fullShare} (xarg m c)
/-- its place at contents `f`, -/
def xslotAt (c : Dev nD) (p : ℕ) (f : Vec F S4x64x4096 .f32) : sProp 𝕄 := ((c : Thread nD τ).loc cc0_scratch1) ↦[xsSet (pq p).val]{fullShare} f
/-- both and the semaphore before the copy starts, -/
def XRaw (c : Dev nD) (p : ℕ) : sProp 𝕄 :=
  iprop(XRows m c p ∗ (∃ f, xslotAt (F := F) c p f) ∗ semVal ((c : Thread nD τ), .dma (xS p)) 0)
/-- the copy under way, -/
def XFl (c : Dev nD) (p : ℕ) : sProp 𝕄 :=
  Flight EC (c : Thread nD τ) (.dma (xS p)) () NX iprop(XRows m c p ∗ xslotAt c p (xsV m c (pq p)))
/-- and after it. -/
def XDone (c : Dev nD) (p : ℕ) : sProp 𝕄 :=
  iprop((XRows m c p ∗ xslotAt c p (xsV m c (pq p))) ∗ semVal ((c : Thread nD τ), .dma (xS p)) 0)

/-- After `a` copies have started and the device has waited for the first `b`. -/
def PX (c : Dev nD) (a b : ℕ) : sProp 𝕄 :=
  iprop(bigSep (Finset.Ico a 4) (XRaw m c) ∗ bigSep (Finset.Ico b a) (XFl m c) ∗ bigSep (Finset.Ico 0 b) (XDone m c))

/-- Starting the copy of a quarter. -/
theorem step_x (c : Dev nD) {a b : ℕ} {α : Type} {Q : α → sProp 𝕄} {off : Fin 2 → ℕ} {off' : Fin 3 → ℕ} {inb inb'} {sm : DmaSem sig}
    {hsrc : (xPart off inb).view.WordExact} {hdst : (xsPart off' inb').view.WordExact}
    {hsem : DmaTarget.Typed (nD := nD) (τ := τ) (p := .tc) .hbm (.dma sm) (.here (xsPart off' inb'))}
    {k : PUnit → Prog (TpuEff nD τ sig (Elt F) Λ₀ .tc) α}
    (hoff : off = ![64 * (pq a).val, 0]) (hoff' : off' = ![(pq a).val, 0, 0]) (hsm : sm = xS a) (hlt : a < 4) (hb : b ≤ a) :
    PX m c a b ⊢ iprop((PX m c (a + 1) b -∗ WP c (k ⟨⟩) Q)
      -∗ WP c (.op (.enqueueDma (xPart off inb) (.here (xsPart off' inb')) (.dma sm) hsrc hdst hsem) k) Q) := by
  subst hoff hoff' hsm
  unfold PX
  iintro ⟨HA, HB, HD⟩ Hk
  ihave HA' := (ico_bot hlt _) $$ HA
  icases HA' with ⟨Ha, HA⟩
  unfold XRaw XRows xslotAt
  icases Ha with ⟨Hs, ⟨%fd, Hd⟩, Hz⟩
  iapply (wp_dmaLocal EC 𝒱₀ (c : Thread nD τ) none (src := xPart ![64 * (pq a).val, 0] inb) (dst := xsPart ![(pq a).val, 0, 0] inb')
    (q := fullShare) (fs := xarg m c) (Sd := xsSet (pq a).val) (fd := fd) () NX rfl NX_pos (by rw [xsPart_set])) $$ [Hs Hd Hz]
  · isplitl [Hs]; · rw [xPart_set]; iexact Hs
    isplitl [Hd]; · iexact Hd
    iexact Hz
  iintro Hfl
  iapply Hk
  isplitl [HA]; · iexact HA
  isplitl [HB Hfl]
  · iapply (ico_top hb _)
    isplitl [Hfl]
    · unfold XFl
      iapply (Flight_mono EC (c : Thread nD τ) (D' := iprop(XRows m c a ∗ xslotAt c a (xsV m c (pq a)))) ?_) $$ Hfl
      unfold XRows xslotAt
      rw [xPart_set]
      iintro ⟨H1, H2⟩
      isplitl [H2]; · iexact H2
      iapply (Entails.of_eq (pointsTo_congr (xs_copy m c (pq a) inb inb' fd))); iexact H1
    iexact HB
  iexact HD

/-- Waiting for it. -/
theorem step_xwait (K : GSem nD τ sig → ℕ) (c : Dev nD) {ns nr nw a b : ℕ} {α : Type} {Q : α → sProp 𝕄}
    {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (hsm : sm = xS b) (hN : v'.view.dmaCredit = NX) (hlt : b < a) :
    iprop(St m K c ns nr nw ∗ PX m c a b) ⊢ iprop((iprop(St m K c ns nr nw ∗ PX m c a (b + 1)) -∗ WP c (k ⟨⟩) Q)
      -∗ WP c (.op (.waitDma2 sm v v' h1 h2) k) Q) := by
  subst hsm
  unfold PX
  iintro ⟨HS, HA, HB, HD⟩ Hk
  ihave HB' := (ico_bot hlt _) $$ HB
  icases HB' with ⟨Hb, HB⟩
  unfold XFl
  iapply (step_lwait m K c hN (by show lvS ((130 + b % 4) % 139) ≤ _
                                  have h : b % 4 < 4 := Nat.mod_lt _ (by decide)
                                  unfold lvS; rw [if_neg (by omega), if_neg (by omega)])) $$ [HS Hb]
  · isplitl [HS]; · iexact HS
    iexact Hb
  iintro ⟨HS, Hd, Hz⟩
  iapply Hk
  isplitl [HS]; · iexact HS
  isplitl [HA]; · iexact HA
  isplitl [HB]; · iexact HB
  iapply (ico_top (Nat.zero_le _) _)
  isplitl [Hd Hz]
  · unfold XDone
    isplitl [Hd]; · iexact Hd
    iexact Hz
  iexact HD

/-- Loading the quarter copied last. -/
theorem step_xld (c : Dev nD) {a b : ℕ} {α : Type} {Q : α → sProp 𝕄} {off : Fin 3 → ℕ} {inb} {hl}
    {k : Vec F S1x64x4096 .f32 → Prog (TpuEff nD τ sig (Elt F) Λ₀ .tc) α} (hoff : off = ![(pq b).val, 0, 0]) :
    PX m c a (b + 1) ⊢ iprop((PX m c a (b + 1) -∗ WP c (k (xsL m c (pq b) (xs_inb _))) Q)
      -∗ WP c (.op (.load xsM (Rect.unit (s := S4x64x4096) off S1x64x4096.size inb).toLoadRect hl) k) Q) := by
  subst hoff
  unfold PX
  iintro ⟨HA, HB, HD⟩ Hk
  ihave HD' := (Entails.of_eq (bigSep_Ico_succ_top (Nat.zero_le b) (XDone m c))) $$ HD
  unfold XDone xslotAt
  icases HD' with ⟨⟨⟨Hr, Hf⟩, Hz⟩, HD⟩
  iapply (wp_load_rect 𝒱₀ (c : Thread nD τ) none Set.univ (m := xsM) (r := Rect.unit (s := S4x64x4096) ![(pq b).val, 0, 0] S1x64x4096.size inb)
    (f := xsV m c (pq b)) (q := fullShare) (by rw [xs_access])) $$ Hf
  iintro Hf
  iapply Hk
  isplitl [HA]; · iexact HA
  isplitl [HB]; · iexact HB
  iapply (ico_top (Nat.zero_le _) _)
  isplitl [Hr Hf Hz]
  · isplitl [Hr Hf]
    · isplitl [Hr]; · iexact Hr
      iexact Hf
    iexact Hz
  iexact HD

/-! ## The own pieces -/

/-- A device's own piece before it is stored. -/
def OwnRaw (c : Dev nD) (p : ℕ) : sProp 𝕄 := iprop(∃ f, pce (F := F) c c.val p fullShare f)
/-- After the device has stored the first `s` of its own pieces and sent the first `r` messages. -/
def PO (c : Dev nD) (s r : ℕ) : sProp 𝕄 :=
  iprop(bigSep (Finset.Ico s 4) (OwnRaw (F := F) c) ∗ bigSep (Finset.Ico 0 s) (OwnL m c) ∗ bigSep (Finset.Ico r (2 * s)) (Src m c))

/-- Loading the place of an own piece; its contents are not used. -/
theorem step_xgld (c : Dev nD) {s r : ℕ} {α : Type} {Q : α → sProp 𝕄} {off : Fin 4 → ℕ} {inb} {hl} {S X R : sProp 𝕄}
    {k : Vec F S1x1x64x4096 .fp8e4m3 → Prog (TpuEff nD τ sig (Elt F) Λ₀ .tc) α}
    (hoff : off = ![c.val, s, 0, 0]) (hlt : s < 4) (h : ∀ v, iprop(S ∗ X ∗ PO m c s r ∗ R) ⊢ WP c (k v) Q) :
    iprop(S ∗ X ∗ PO m c s r ∗ R) ⊢ WP c (.op (.load xgM (Rect.unit (s := S16x4x64x4096) off S1x1x64x4096.size inb).toLoadRect hl) k) Q := by
  subst hoff
  iintro ⟨HS, HX, HO, HR⟩
  unfold PO
  icases HO with ⟨HA, HL, HSr⟩
  ihave HA' := (ico_bot hlt _) $$ HA
  icases HA' with ⟨Ha, HA⟩
  unfold OwnRaw pce
  icases Ha with ⟨%f, Hf⟩
  iapply (wp_load_rect 𝒱₀ (c : Thread nD τ) none Set.univ (m := xgM) (r := Rect.unit (s := S16x4x64x4096) ![c.val, s, 0, 0] S1x1x64x4096.size inb)
    (f := f) (q := fullShare) (by rw [piece_access])) $$ Hf
  iintro Hf
  iapply (h _)
  isplitl [HS]; · iexact HS
  isplitl [HX]; · iexact HX
  isplitr [HR]
  · unfold PO
    isplitl [HA Hf]
    · iapply (Entails.of_eq (bigSep_Ico_succ_bot hlt _).symm)
      isplitl [Hf]; · unfold OwnRaw pce; iexists f; iexact Hf
      iexact HA
    isplitl [HL]; · iexact HL
    iexact HSr
  iexact HR

/-- The half of an own piece the products read and the sources of its two messages, as shares of the piece. -/
theorem own_eq (c : Dev nD) (s : ℕ) (hs : s < 4) :
    iprop(OwnL m c s ∗ Src m c (2 * s) ∗ Src m c (2 * s + 1))
      = (iprop(pce c c.val s fullShare.left (gx m) ∗ pce c c.val s fullShare.right.left (gx m) ∗ pce c c.val s fullShare.right.right (gx m)) : sProp 𝕄) := by
  have h0 := sslot_own c (2 * s) (by omega)
  have h1 := sslot_own c (2 * s + 1) (by omega)
  have e0 : pc (2 * s) = s := h0.2.trans (by omega)
  have e1 : pc (2 * s + 1) = s := h1.2.trans (by omega)
  have p0 : hop (2 * s) = 0 := by unfold hop; rw [if_pos (by omega)]; omega
  have p1 : hop (2 * s + 1) = 0 := by unfold hop; rw [if_pos (by omega)]; omega
  have w0 : cw (2 * s) = true := by unfold cw; rw [if_pos (by omega)]; simp
  have w1 : cw (2 * s + 1) = false := by unfold cw; rw [if_pos (by omega)]; simp
  unfold OwnL Src
  rw [h0.1, h1.1, e0, e1, p0, p1, w0, w1]
  rfl

/-- An own piece splits into the half the products read and the sources of its two messages. -/
theorem own_split (c : Dev nD) (s : ℕ) (hs : s < 4) :
    pce c c.val s fullShare (gx m) ⊢ iprop(OwnL m c s ∗ Src m c (2 * s) ∗ Src m c (2 * s + 1)) := by
  rw [own_eq m c s hs]
  iintro H
  ihave H' := (pce_halves c _ _ _ _).1 $$ H
  icases H' with ⟨Hl, Hr⟩
  ihave Hr' := (pce_halves c _ _ _ _).1 $$ Hr
  icases Hr' with ⟨Hrl, Hrr⟩
  isplitl [Hl]; · iexact Hl
  isplitl [Hrl]; · iexact Hrl
  iexact Hrr

/-- Storing an own piece. -/
theorem step_xgst (c : Dev nD) {s r : ℕ} {α : Type} {Q : α → sProp 𝕄} {off : Fin 4 → ℕ} {inb} {w : Vec F S1x1x64x4096 .fp8e4m3} {hx hm}
    {k : PUnit → Prog (TpuEff nD τ sig (Elt F) Λ₀ .tc) α}
    (hoff : off = ![c.val, s, 0, 0]) (hw : w = k0_pay1 (xsL m c (pq s) (xs_inb _))) (hlt : s < 4) (hr : r ≤ 2 * s) :
    PO m c s r ⊢ iprop((PO m c (s + 1) r -∗ WP c (k ⟨⟩) Q)
      -∗ WP c (.op (.store xgM (Rect.unit (s := S16x4x64x4096) off S1x1x64x4096.size inb) w Finset.univ hx hm) k) Q) := by
  have hp : (pq s).val = s := Nat.mod_eq_of_lt hlt
  have hoff' : off = ![c.val, (pq s).val, 0, 0] := by rw [hoff, hp]
  subst hoff' hw
  unfold PO
  iintro ⟨HA, HL, HSr⟩ Hk
  ihave HA' := (ico_bot hlt _) $$ HA
  icases HA' with ⟨Ha, HA⟩
  unfold OwnRaw
  icases Ha with ⟨%f, Hf⟩
  ihave Hf' := (Entails.of_eq (show pce (F := F) c c.val s fullShare f = (((c : Thread nD τ).loc cc0_scratch0) ↦[pieceSet c.val (pq s).val]{fullShare} f : sProp 𝕄) by rw [hp]; rfl)) $$ Hf
  iapply (wp_store 𝒱₀ (c : Thread nD τ) none Set.univ (m := xgM) (r := Rect.unit (s := S16x4x64x4096) ![c.val, (pq s).val, 0, 0] S1x1x64x4096.size inb)
    (f := f) (S := pieceSet c.val (pq s).val) (by rw [View.setOn_univ, piece_access])) $$ Hf'
  iintro Hf
  ihave Hf' := (Entails.of_eq (pointsTo_congr (xg_store m c (pq s) inb (xs_inb _) f))) $$ Hf
  ihave Hf := (Entails.of_eq (show (((c : Thread nD τ).loc cc0_scratch0) ↦[pieceSet c.val (pq s).val]{fullShare} (gx m) : sProp 𝕄) = pce (F := F) c c.val s fullShare (gx m) by rw [hp]; rfl)) $$ Hf'
  ihave Hf' := (own_split m c s hlt) $$ Hf
  icases Hf' with ⟨Hl, H0, H1⟩
  iapply Hk
  isplitl [HA]; · iexact HA
  isplitl [HL Hl]
  · iapply (ico_top (Nat.zero_le _) _)
    isplitl [Hl]; · iexact Hl
    iexact HL
  rw [show 2 * (s + 1) = 2 * s + 1 + 1 by omega]
  iapply (ico_top (by omega) _)
  isplitl [H1]; · iexact H1
  iapply (ico_top hr _)
  isplitl [H0]; · iexact H0
  iexact HSr

/-- Sending an own piece. -/
theorem step_ownsend (K : GSem nD τ sig → ℕ) (c : Dev nD) {ns nr nw s : ℕ} {α : Type} {Q : α → sProp 𝕄}
    {dv : Dev nD} {off off' : Fin 4 → ℕ} {inb inb'} {s1 s2 : DmaSem sig}
    {hsc : (pieceM off' inb' : Memref sig (Dev.tc dv : Thread nD τ).2.kind .vmem S64x4096 .fp8e4m3).view.ref.isScScratch = false}
    {hsrc : (pieceM off inb).view.WordExact} {hdst : (pieceM off' inb').view.WordExact}
    {hsem : DmaTarget.Typed .vmem (.dma s2) (.remote (Dev.tc dv : Thread nD τ) (pieceM off' inb') (.dma s1) hsc)}
    {k : PUnit → Prog (TpuEff nD τ sig (Elt F) Λ₀ .tc) α}
    (hdv : dv = nb c ns) (hoff : off = ![sslot c ns, pc ns, 0, 0]) (hoff' : off' = ![sslot c ns, pc ns, 0, 0])
    (hs1 : s1 = sS ns) (hs2 : s2 = rS ns) (hlt : ns < 8) (hnw : nw ≤ ns) (hnr : nr ≤ 60) (hs : ns < 2 * s) :
    iprop(St m K c ns nr nw ∗ PO m c s ns) ⊢ iprop((iprop(St m K c (ns + 1) nr nw ∗ PO m c s (ns + 1)) -∗ WP c (k ⟨⟩) Q)
      -∗ WP c (.op (.enqueueDma (pieceM off inb) (.remote (Dev.tc dv : Thread nD τ) (pieceM off' inb') (.dma s1) hsc) (.dma s2) hsrc hdst hsem) k) Q) := by
  unfold PO
  iintro ⟨HS, HA, HL, HSr⟩ Hk
  ihave H' := (ico_bot hs _) $$ HSr
  icases H' with ⟨Hsrc, HSr⟩
  iapply (step_own m K c hdv hoff hoff' hs1 hs2 hlt hnw hnr) $$ [HS Hsrc]
  · isplitl [Hsrc]; · iexact Hsrc
    iexact HS
  iintro HS
  iapply Hk
  isplitl [HS]; · iexact HS
  isplitl [HA]; · iexact HA
  isplitl [HL]; · iexact HL
  iexact HSr

/-! ## The right operand's copies -/

/-- Half `h` of the right operand's block. -/
def WRows (c : Dev nD) (h : ℕ) : sProp 𝕄 := ((c : Thread nD τ).loc main_arg1) ↦[wSet (hq h).val]{fullShare} (warg m c)
/-- The staging buffer, free or holding the half copied last. -/
def WStage (c : Dev nD) (d : ℕ) : sProp 𝕄 :=
  iprop(∃ f : Vec F S2048x512 .f32, ⌜∀ h, d = h + 1 → f = wsV m c (hq h)⌝ ∗ ((c : Thread nD τ).loc cc0_scratch2) ↦{fullShare} f)
def W8Raw (c : Dev nD) (h : ℕ) : sProp 𝕄 := iprop(∃ f : Vec F S4096x512 .fp8e5m2, ((c : Thread nD τ).loc cc0_scratch3) ↦[wSet (hq h).val]{fullShare} f)
def W8Done (c : Dev nD) (h : ℕ) : sProp 𝕄 := ((c : Thread nD τ).loc cc0_scratch3) ↦[wSet (hq h).val]{fullShare} (W8 m c)
/-- The narrowed right operand, its first `s` halves stored. -/
def W8s (c : Dev nD) (s : ℕ) : sProp 𝕄 := iprop(bigSep (Finset.Ico s 2) (W8Raw (F := F) c) ∗ bigSep (Finset.Ico 0 s) (W8Done m c))

/-- Between copies, `d` of them complete and `s` halves stored, -/
def PW (c : Dev nD) (d s : ℕ) : sProp 𝕄 :=
  iprop(bigSep (Finset.Ico d 2) (WRows m c) ∗ bigSep (Finset.Ico 0 d) (WRows m c) ∗ (WStage m c d ∗ semVal ((c : Thread nD τ), .dma wS) 0) ∗ W8s m c s)
/-- and with the copy of half `d` under way. -/
def PWf (c : Dev nD) (d s : ℕ) : sProp 𝕄 :=
  iprop(bigSep (Finset.Ico (d + 1) 2) (WRows m c) ∗ bigSep (Finset.Ico 0 d) (WRows m c)
    ∗ Flight EC (c : Thread nD τ) (.dma wS) () NW iprop(WRows m c d ∗ WStage m c (d + 1)) ∗ W8s m c s)

/-- Starting the copy of a half. -/
theorem step_w (c : Dev nD) {d s : ℕ} {α : Type} {Q : α → sProp 𝕄} {off : Fin 2 → ℕ} {inb} {sm : DmaSem sig}
    {hsrc : (wPart off inb).view.WordExact} {hdst : wsM.view.WordExact}
    {hsem : DmaTarget.Typed (nD := nD) (τ := τ) (p := .tc) .hbm (.dma sm) (.here wsM)}
    {k : PUnit → Prog (TpuEff nD τ sig (Elt F) Λ₀ .tc) α}
    (hoff : off = ![2048 * (hq d).val, 0]) (hsm : sm = wS) (hlt : d < 2) :
    PW m c d s ⊢ iprop((PWf m c d s -∗ WP c (k ⟨⟩) Q)
      -∗ WP c (.op (.enqueueDma (wPart off inb) (.here wsM) (.dma sm) hsrc hdst hsem) k) Q) := by
  subst hoff hsm
  unfold PW PWf
  iintro ⟨HA, HB, ⟨HD, Hz⟩, H8⟩ Hk
  ihave HA' := (ico_bot hlt _) $$ HA
  icases HA' with ⟨Ha, HA⟩
  unfold WRows WStage
  icases HD with ⟨%fd, -, Hd⟩
  iapply (wp_dmaLocal EC 𝒱₀ (c : Thread nD τ) none (src := wPart ![2048 * (hq d).val, 0] inb) (dst := wsM)
    (q := fullShare) (fs := warg m c) (Sd := Finset.univ) (fd := fd) () NW rfl NW_pos (Finset.subset_univ _)) $$ [Ha Hd Hz]
  · isplitl [Ha]; · rw [wPart_set]; iexact Ha
    isplitl [Hd]; · iexact Hd
    iexact Hz
  iintro Hfl
  iapply Hk
  isplitl [HA]; · iexact HA
  isplitl [HB]; · iexact HB
  isplitl [Hfl]
  · iapply (Flight_mono EC (c : Thread nD τ) (D' := iprop(WRows m c d ∗ WStage m c (d + 1))) ?_) $$ Hfl
    unfold WRows WStage
    rw [wPart_set]
    iintro ⟨H1, H2⟩
    isplitl [H2]; · iexact H2
    iexists (wsV m c (hq d))
    isplitr
    · ipureintro; intro h hh; rw [show d = h by omega]
    ihave H1' := (Entails.of_eq (congrArg (fun f => (((c : Thread nD τ).loc cc0_scratch2) ↦{fullShare} f : sProp 𝕄)) (ws_copy m c (hq d) inb fd))) $$ H1
    iexact H1'
  iexact H8

/-- Waiting for it. -/
theorem step_wwait (K : GSem nD τ sig → ℕ) (c : Dev nD) {ns nr nw d t : ℕ} {α : Type} {Q : α → sProp 𝕄}
    {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (hsm : sm = wS) (hN : v'.view.dmaCredit = NW) :
    iprop(St m K c ns nr nw ∗ PWf m c d t) ⊢ iprop((iprop(St m K c ns nr nw ∗ PW m c (d + 1) t) -∗ WP c (k ⟨⟩) Q)
      -∗ WP c (.op (.waitDma2 sm v v' h1 h2) k) Q) := by
  subst hsm
  unfold PW PWf
  iintro ⟨HS, HA, HB, HF, H8⟩ Hk
  iapply (step_lwait m K c hN (by show lvS 134 ≤ 0; decide)) $$ [HS HF]
  · isplitl [HS]; · iexact HS
    iexact HF
  iintro ⟨HS, ⟨Hr, Hs⟩, Hz⟩
  iapply Hk
  isplitl [HS]; · iexact HS
  isplitl [HA]; · iexact HA
  isplitl [HB Hr]
  · iapply (ico_top (Nat.zero_le _) _)
    isplitl [Hr]; · iexact Hr
    iexact HB
  isplitl [Hs Hz]
  · isplitl [Hs]; · iexact Hs
    iexact Hz
  iexact H8

/-- Loading the half copied last. -/
theorem step_wld (c : Dev nD) {d s : ℕ} {α : Type} {Q : α → sProp 𝕄} {hl}
    {k : Vec F S2048x512 .f32 → Prog (TpuEff nD τ sig (Elt F) Λ₀ .tc) α} :
    PW m c (d + 1) s ⊢ iprop((PW m c (d + 1) s -∗ WP c (k (wsV m c (hq d))) Q)
      -∗ WP c (.op (.load wsM (Rect.unit (s := S2048x512) ![0, 0] S2048x512.size inb_S2048x512_S2048x512_0_0).toLoadRect hl) k) Q) := by
  unfold PW WStage
  iintro ⟨HA, HB, ⟨⟨%f, %hf, Hf⟩, Hz⟩, H8⟩ Hk
  have hf' := hf d rfl
  subst hf'
  iapply (wp_load_rect 𝒱₀ (c : Thread nD τ) none Set.univ (m := wsM) (r := Rect.unit (s := S2048x512) ![0, 0] S2048x512.size inb_S2048x512_S2048x512_0_0)
    (f := wsV m c (hq d)) (q := fullShare) (Finset.subset_univ _)) $$ Hf
  iintro Hf
  ihave Hk' := (Entails.of_eq (congrArg (fun v => iprop((iprop(bigSep (Finset.Ico (d + 1) 2) (WRows m c) ∗ bigSep (Finset.Ico 0 (d + 1)) (WRows m c)
      ∗ ((∃ f : Vec F S2048x512 .f32, ⌜∀ h, d + 1 = h + 1 → f = wsV m c (hq h)⌝ ∗ ((c : Thread nD τ).loc cc0_scratch2) ↦{fullShare} f) ∗ semVal ((c : Thread nD τ), .dma wS) 0) ∗ W8s m c s)
      -∗ WP c (k v) Q))) (ws_load m c (hq d)).symm)) $$ Hk
  iapply Hk'
  isplitl [HA]; · iexact HA
  isplitl [HB]; · iexact HB
  isplitl [Hf Hz]
  · isplitl [Hf]
    · iexists _; isplitr; · ipureintro; exact hf
      iexact Hf
    iexact Hz
  iexact H8

/-- Loading the place of a half of the narrowed right operand; its contents are not used. -/
theorem step_w8ld (c : Dev nD) {d s : ℕ} {α : Type} {Q : α → sProp 𝕄} {off : Fin 2 → ℕ} {inb} {hl} {S X Y R : sProp 𝕄}
    {k : Vec F S2048x512 .fp8e5m2 → Prog (TpuEff nD τ sig (Elt F) Λ₀ .tc) α}
    (hoff : off = ![2048 * (hq s).val, 0]) (hlt : s < 2) (h : ∀ v, iprop(S ∗ X ∗ Y ∗ PW m c d s ∗ R) ⊢ WP c (k v) Q) :
    iprop(S ∗ X ∗ Y ∗ PW m c d s ∗ R) ⊢ WP c (.op (.load w8M (Rect.unit (s := S4096x512) off S2048x512.size inb).toLoadRect hl) k) Q := by
  subst hoff
  iintro ⟨HS, HX, HY, HW, HR⟩
  unfold PW W8s
  icases HW with ⟨HA, HB, HD, H8, H8'⟩
  ihave HA' := (ico_bot hlt _) $$ H8
  icases HA' with ⟨Ha, H8⟩
  unfold W8Raw
  icases Ha with ⟨%f, Hf⟩
  iapply (wp_load_rect 𝒱₀ (c : Thread nD τ) none Set.univ (m := w8M) (r := Rect.unit (s := S4096x512) ![2048 * (hq s).val, 0] S2048x512.size inb)
    (f := f) (q := fullShare) (by rw [w8_access])) $$ Hf
  iintro Hf
  iapply (h _)
  isplitl [HS]; · iexact HS
  isplitl [HX]; · iexact HX
  isplitl [HY]; · iexact HY
  isplitr [HR]
  · unfold PW W8s
    isplitl [HA]; · iexact HA
    isplitl [HB]; · iexact HB
    isplitl [HD]; · iexact HD
    isplitl [H8 Hf]
    · iapply (Entails.of_eq (bigSep_Ico_succ_bot hlt _).symm)
      isplitl [Hf]; · unfold W8Raw; iexists f; iexact Hf
      iexact H8
    iexact H8'
  iexact HR

/-- Storing it. -/
theorem step_w8st (c : Dev nD) {d s : ℕ} {α : Type} {Q : α → sProp 𝕄} {off : Fin 2 → ℕ} {inb} {w : Vec F S2048x512 .fp8e5m2} {hx hm}
    {k : PUnit → Prog (TpuEff nD τ sig (Elt F) Λ₀ .tc) α}
    (hoff : off = ![2048 * (hq s).val, 0]) (hw : w = k0_pay6 (wsV m c (hq s))) (hlt : s < 2) :
    PW m c d s ⊢ iprop((PW m c d (s + 1) -∗ WP c (k ⟨⟩) Q)
      -∗ WP c (.op (.store w8M (Rect.unit (s := S4096x512) off S2048x512.size inb) w Finset.univ hx hm) k) Q) := by
  subst hoff hw
  unfold PW W8s
  iintro ⟨HA, HB, HD, H8, H8'⟩ Hk
  ihave HA' := (ico_bot hlt _) $$ H8
  icases HA' with ⟨Ha, H8⟩
  unfold W8Raw
  icases Ha with ⟨%f, Hf⟩
  iapply (wp_store 𝒱₀ (c : Thread nD τ) none Set.univ (m := w8M) (r := Rect.unit (s := S4096x512) ![2048 * (hq s).val, 0] S2048x512.size inb)
    (f := f) (S := wSet (hq s).val) (by rw [View.setOn_univ, w8_access])) $$ Hf
  iintro Hf
  iapply Hk
  isplitl [HA]; · iexact HA
  isplitl [HB]; · iexact HB
  isplitl [HD]; · iexact HD
  isplitl [H8]; · iexact H8
  iapply (ico_top (Nat.zero_le _) _)
  isplitl [Hf]
  · unfold W8Done
    iapply (Entails.of_eq (pointsTo_congr (w8_store m c (hq s) inb f))); iexact Hf
  iexact H8'

/-! ## The barrier -/

/-- What a device holds of the messages' state before the places it sends to are its own. -/
def Early (K : GSem nD τ sig → ℕ) (c : Dev nD) : sProp 𝕄 :=
  iprop(recs m K ∗ levAts L lv
    ∗ bigSep (Finset.Ico 0 60) (fun i => iprop(dutyTok ER (sCell c i) 0 false ∗ dutyTok ER (rCell (nb c i) i) 0 false))
    ∗ bigSep (Finset.Ico 0 60) (RecvRes c) ∗ bigSep (Finset.Ico 0 60) (PosRes c)
    ∗ cred (tallyAt (barCell c) () 2) ∗ atPos ER (barCell c) 0 ∅ 0)
/-- Before the signal to the next device, -/
def B₁ (K : GSem nD τ sig → ℕ) (c : Dev nD) : sProp 𝕄 :=
  iprop((∃ W, owes (c : Thread nD τ) (O₁ c) W) ∗ (dutyTok ER (barCell (nxt c)) 0 false ∗ barPay (F := F) (nxt c) false) ∗ Early m K c)
/-- before the one to the device before, which comes first, -/
def B₀ (K : GSem nD τ sig → ℕ) (c : Dev nD) : sProp 𝕄 :=
  iprop((∃ W, owes (c : Thread nD τ) (O₀ c) W) ∗ (dutyTok ER (barCell (prv c)) 0 true ∗ barPay (F := F) (prv c) true)
    ∗ (dutyTok ER (barCell (nxt c)) 0 false ∗ barPay (F := F) (nxt c) false) ∗ Early m K c)
/-- and before the wait. -/
def B₂ (K : GSem nD τ sig → ℕ) (c : Dev nD) : sProp 𝕄 :=
  iprop((∃ W, owes (c : Thread nD τ) (owedR c 0) W) ∗ Early m K c)

theorem pay_bar (c : Dev nD) (b : Bool) : (ringRd m).payload (barCell c) 0 b = barPay (F := F) c b := rfl

/-- The signal to the device before. -/
theorem step_sig₀ (K : GSem nD τ sig → ℕ) (c : Dev nD) {α : Type} {Q : α → sProp 𝕄} {dv : Dev nD} {z : ℤ}
    {k : PUnit → Prog (TpuEff nD τ sig (Elt F) Λ₀ .tc) α} (hdv : dv = prv c) (hz : z = ((1 : ℕ) : ℤ)) :
    B₀ m K c ⊢ iprop((B₁ m K c -∗ WP c (k ⟨⟩) Q) -∗ WP c (.op (.semSignal (dv : Thread nD τ) barS z) k) Q) := by
  subst hdv hz
  unfold B₀ B₁ Early
  iintro ⟨⟨%W, HO⟩, ⟨Ht, Hp⟩, H1, #HK, HE⟩ Hk
  ihave Hi := (recs_at m K (bar_mem (prv c))) $$ HK
  icases Hi with ⟨#Hi, #Hre⟩
  iapply (Rounds.wp_signal 𝒱₀ ER (ringRd m) (c : Thread nD τ) none (dst := (prv c : Thread nD τ)) (κ := K (barCell (prv c)))
      (d := true) (by rw [duties_bar]; exact Finset.mem_univ _) rfl () (O₁ c) rfl) $$ [HO Ht Hp]
  · isplitr; · iexact Hi
    isplitl [HO]; · iexact HO
    isplitl [Ht]; · iexact Ht
    isplitl [Hp]; · rw [pay_bar]; iexact Hp
    iexact Hre
  iintro HO
  iapply Hk
  isplitl [HO]; · iexists _; iexact HO
  isplitl [H1]; · iexact H1
  isplitr; · iexact HK
  iexact HE

/-- The signal to the next device. -/
theorem step_sig₁ (K : GSem nD τ sig → ℕ) (c : Dev nD) {α : Type} {Q : α → sProp 𝕄} {dv : Dev nD} {z : ℤ}
    {k : PUnit → Prog (TpuEff nD τ sig (Elt F) Λ₀ .tc) α} (hdv : dv = nxt c) (hz : z = ((1 : ℕ) : ℤ)) :
    B₁ m K c ⊢ iprop((B₂ m K c -∗ WP c (k ⟨⟩) Q) -∗ WP c (.op (.semSignal (dv : Thread nD τ) barS z) k) Q) := by
  subst hdv hz
  unfold B₁ B₂ Early
  iintro ⟨⟨%W, HO⟩, ⟨Ht, Hp⟩, #HK, HE⟩ Hk
  ihave Hi := (recs_at m K (bar_mem (nxt c))) $$ HK
  icases Hi with ⟨#Hi, #Hre⟩
  iapply (Rounds.wp_signal 𝒱₀ ER (ringRd m) (c : Thread nD τ) none (dst := (nxt c : Thread nD τ)) (κ := K (barCell (nxt c)))
      (d := false) (by rw [duties_bar]; exact Finset.mem_univ _) rfl () (owedR c 0) rfl) $$ [HO Ht Hp]
  · isplitr; · iexact Hi
    isplitl [HO]; · iexact HO
    isplitl [Ht]; · iexact Ht
    isplitl [Hp]; · rw [pay_bar]; iexact Hp
    iexact Hre
  iintro HO
  iapply Hk
  isplitl [HO]; · iexists _; iexact HO
  isplitr; · iexact HK
  iexact HE

theorem sendRes_one (c : Dev nD) (i : ℕ) :
    iprop(iprop(dutyTok ER (sCell c i) 0 false ∗ dutyTok ER (rCell (nb c i) i) 0 false) ∗ land (F := F) c i) ⊢ (SendRes c i : sProp 𝕄) := by
  unfold SendRes
  iintro ⟨⟨H1, H2⟩, H3⟩
  isplitl [H1]; · iexact H1
  isplitl [H2]; · iexact H2
  iexact H3

/-- The rights to send and the places sent to, put together. -/
theorem sendRes_intro (c : Dev nD) :
    iprop(bigSep (Finset.Ico 0 60) (fun i => iprop(dutyTok ER (sCell c i) 0 false ∗ dutyTok ER (rCell (nb c i) i) 0 false))
      ∗ bigSep (Finset.Ico 0 60) (land (F := F) c)) ⊢ (bigSep (Finset.Ico 0 60) (SendRes c) : sProp 𝕄) :=
  (Entails.of_eq (bigSep_sep (Finset.Ico 0 60) _ (land (F := F) c)).symm).trans (bigSep_mono fun i _ => sendRes_one c i)

/-- The wait for both neighbours' signals. -/
theorem step_bar (K : GSem nD τ sig → ℕ) (c : Dev nD) {α : Type} {Q : α → sProp 𝕄} {z : ℤ}
    {k : PUnit → Prog (TpuEff nD τ sig (Elt F) Λ₀ .tc) α} (hz : z = ((2 : ℕ) : ℤ)) :
    B₂ m K c ⊢ iprop((iprop(St m K c 0 0 0 ∗ semVal (barCell c) 0) -∗ WP c (k ⟨⟩) Q) -∗ WP c (.op (.semWait barS z) k) Q) := by
  subst hz
  unfold B₂ Early
  iintro ⟨⟨%W, HO⟩, #HK, #Hlev, HT, HR, HP, Hc, Hat⟩ Hk
  ihave Hi := (recs_at m K (bar_mem c)) $$ HK
  icases Hi with ⟨#Hi, -⟩
  iapply (Rounds.wp_wait_rest_token 𝒱₀ ER (ringRd m) (c : Thread nD τ) none (κ := K (barCell c))
      (wpE_semWait_eq 𝒱₀ (c : Thread nD τ) none Set.univ) (Set.mem_univ _) () (O := owedR c 0) (W := W) (R := 0) (m := 0) (T := ∅)
      (by rw [expect_bar])) $$ [Hc HO Hat]
  · isplitr; · iexact Hi
    isplitl [Hc]; · iexact Hc
    isplitl [HO]; · iexact HO
    isplitr
    · iapply (mayWait_of c _ 1 (le_refl _) _ (above_owedR c 0)); iexact Hlev
    iexact Hat
  iintro ⟨HO, Hat, -, Hpay⟩
  ihave Hp := (rest_bar m c) $$ Hpay
  imod (cell_close ER (ringRd m) (Set.mem_univ (K (barCell c))) (fun h => h) (R := 0 + 1) (duties_later m (barCell c))) $$ [Hat] with Hz
  · isplitr; · iexact Hi
    iexact Hat
  iapply Hk
  isplitr [Hz]
  · unfold St
    isplitr; · iexact HK
    isplitr; · iexact Hlev
    isplitl [HO]; · iexists _; iexact HO
    isplitl [HT Hp]
    · iapply (sendRes_intro c)
      isplitl [HT]; · iexact HT
      iexact Hp
    isplitl [HR]; · iexact HR
    isplitr
    · rw [Finset.Ico_self, bigSep_empty]; iempintro
    isplitl [HP]; · iexact HP
    simp only [Finset.Ico_self, Finset.filter_empty, bigSep_empty]
    isplitr; · iempintro
    isplitr; · iempintro
    isplitr; · iempintro
    isplitr; · iempintro
    iempintro
  iexact Hz

end Cert.Proof.Ring
-- ==== Proof.Ops.lean ====
/-
The operations of the kernel as steps of a run: what is left to run is run from the state after the operation. The side
conditions (which message, which device, which semaphore, which offsets) are decided over the sixteen devices.
-/
module

public import proofs.«01_k».proof.Proof.Compute

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : GSem nD τ sig → ℕ) (c : Dev nD) (sc : F .f32)
variable {ns nr nw nO nW : ℕ}

/-- Receive the next message. -/
theorem op_recv {R : sProp 𝕄} {α : Type} {Q : α → sProp 𝕄} {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (h : iprop(St m K c ns (nr + 1) nw ∗ R) ⊢ WP c (k ⟨⟩) Q)
    (hsm : sm = rS nr := by decide) (hN : v'.view.dmaCredit = N := by rfl) (hlt : nr < 60 := by decide) (hns : nr < ns := by decide)
    (hsu : ns ≤ succ nr := by decide) :
    iprop(St m K c ns nr nw ∗ R) ⊢ WP c (.op (.waitDma2 sm v v' h1 h2) k) Q :=
  lift (step_recv m K c hsm hN hlt hns hsu) h

/-- Forward a received piece. -/
theorem op_fwd {R : sProp 𝕄} {α : Type} {Q : α → sProp 𝕄} {dv : Dev nD} {off off' : Fin 4 → ℕ} {inb inb'} {s1 s2 : DmaSem sig}
    {hsc : (pieceM off' inb' : Memref sig (Dev.tc dv : Thread nD τ).2.kind .vmem S64x4096 .fp8e4m3).view.ref.isScScratch = false}
    {hsrc : (pieceM off inb).view.WordExact} {hdst : (pieceM off' inb').view.WordExact}
    {hsem : DmaTarget.Typed .vmem (.dma s2) (.remote (Dev.tc dv : Thread nD τ) (pieceM off' inb') (.dma s1) hsc)}
    {k : PUnit → Prog (TpuEff nD τ sig (Elt F) Λ₀ .tc) α}
    (h : iprop(St m K c (ns + 1) nr nw ∗ R) ⊢ WP c (k ⟨⟩) Q)
    (hdv : dv = nb c ns := by clear * -; revert c; decide +kernel)
    (hoff : off = ![sslot c ns, pc ns, 0, 0] := by clear * -; revert c; decide +kernel)
    (hoff' : off' = ![sslot c ns, pc ns, 0, 0] := by clear * -; revert c; decide +kernel)
    (hs1 : s1 = sS ns := by decide) (hs2 : s2 = rS ns := by decide) (hlt : ns < 60 := by decide) (hnw : nw ≤ ns := by decide)
    (hnr : nr ≤ 60 := by decide) (hf : ∃ j < nr, succ j = ns := by decide) :
    iprop(St m K c ns nr nw ∗ R)
      ⊢ WP c (.op (.enqueueDma (pieceM off inb) (.remote (Dev.tc dv : Thread nD τ) (pieceM off' inb') (.dma s1) hsc) (.dma s2) hsrc hdst hsem) k) Q :=
  lift (step_fwd m K c hdv hoff hoff' hs1 hs2 hlt hnw hnr hf) h

/-- Wait for the next send to complete. -/
theorem op_wsend {R : sProp 𝕄} {α : Type} {Q : α → sProp 𝕄} {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (h : iprop(St m K c 60 nr (nw + 1) ∗ R) ⊢ WP c (k ⟨⟩) Q)
    (hsm : sm = sS nw := by decide) (hN : v'.view.dmaCredit = N := by rfl) (hlt : nw < 60 := by decide) :
    iprop(St m K c 60 nr nw ∗ R) ⊢ WP c (.op (.waitDma2 sm v v' h1 h2) k) Q :=
  lift (step_wsend m K c hsm hN hlt) h

/-- Load the next slab, of received pieces. -/
theorem op_slab {R : sProp 𝕄} {α : Type} {Q : α → sProp 𝕄} {off : Fin 4 → ℕ} {inb} {hl} {k : Vec F S1x4x64x4096 .fp8e4m3 → Prog (TpuEff nD τ sig (Elt F) Λ₀ .tc) α}
    (h : iprop(St m K c ns nr nw ∗ Cm m c sc nO nW ∗ R) ⊢ WP c (k (slabV m (oslot c nO))) Q)
    (hoff : off = ![(oslot c nO).val, 0, 0, 0] := by clear * -; revert c; decide +kernel) (hj : nO < 16 := by decide) (hj1 : 1 ≤ nO := by decide)
    (hr : ∀ p < 4, mi nO p < nr := by decide) :
    iprop(St m K c ns nr nw ∗ Cm m c sc nO nW ∗ R)
      ⊢ WP c (.op (.load xgM (Rect.unit (s := S16x4x64x4096) off S1x4x64x4096.size inb).toLoadRect hl) k) Q :=
  lift (step_slab m K c hoff hj hj1 hr) h

/-- Load the narrowed right operand. -/
theorem op_w8 {R : sProp 𝕄} {α : Type} {Q : α → sProp 𝕄} {S : sProp 𝕄} {hl} {k : Vec F S4096x512 .fp8e5m2 → Prog (TpuEff nD τ sig (Elt F) Λ₀ .tc) α}
    (h : iprop(S ∗ Cm m c sc nO nW ∗ R) ⊢ WP c (k (w8V m c)) Q) :
    iprop(S ∗ Cm m c sc nO nW ∗ R)
      ⊢ WP c (.op (.load w8M (Rect.unit (s := S4096x512) ![0, 0] S4096x512.size inb_S4096x512_S4096x512_0_0).toLoadRect hl) k) Q :=
  lift₂ (step_w8 m c sc) h

/-- Load the slot to be written. -/
theorem op_ld {R : sProp 𝕄} {α : Type} {Q : α → sProp 𝕄} {S : sProp 𝕄} {off : Fin 3 → ℕ} {inb} {hl} {k : Vec F S1x256x512 .f32 → Prog (TpuEff nD τ sig (Elt F) Λ₀ .tc) α}
    (h : ∀ v, iprop(S ∗ Cm m c sc nO nW ∗ R) ⊢ WP c (k v) Q) (hoff : off = ![nO % 4, 0, 0] := by rfl) (hlt : nO < nW + 4 := by decide) :
    iprop(S ∗ Cm m c sc nO nW ∗ R) ⊢ WP c (.op (.load osM (Rect.unit (s := S4x256x512) off S1x256x512.size inb).toLoadRect hl) k) Q :=
  step_ld m c sc hoff hlt h

/-- Stage the next result. -/
theorem op_st {R : sProp 𝕄} {α : Type} {Q : α → sProp 𝕄} {S : sProp 𝕄} {off : Fin 3 → ℕ} {inb} {w : Vec F S1x256x512 .f32} {hx hm} {k : PUnit → Prog (TpuEff nD τ sig (Elt F) Λ₀ .tc) α}
    (h : iprop(S ∗ CmH m c sc nO nW ∗ R) ⊢ WP c (k ⟨⟩) Q)
    (hoff : off = ![nO % 4, 0, 0] := by rfl) (hw : w = outV m c sc (oslot c nO) := by rfl) (hlt : nO < nW + 4 := by decide) :
    iprop(S ∗ Cm m c sc nO nW ∗ R) ⊢ WP c (.op (.store osM (Rect.unit (s := S4x256x512) off S1x256x512.size inb) w Finset.univ hx hm) k) Q :=
  lift₂ (step_st m c sc hoff hw hlt) h

/-- Start its copy to the result. -/
theorem op_out {R : sProp 𝕄} {α : Type} {Q : α → sProp 𝕄} {S : sProp 𝕄} {off : Fin 3 → ℕ} {off' : Fin 2 → ℕ} {inb inb'} {sm : DmaSem sig}
    {hsrc : (osPart off inb).view.WordExact} {hdst : (resPart off' inb').view.WordExact}
    {hsem : DmaTarget.Typed (nD := nD) (τ := τ) (p := .tc) .vmem (.dma sm) (.here (resPart off' inb'))}
    {k : PUnit → Prog (TpuEff nD τ sig (Elt F) Λ₀ .tc) α}
    (h : iprop(S ∗ Cm m c sc (nO + 1) nW ∗ R) ⊢ WP c (k ⟨⟩) Q)
    (hoff : off = ![nO % 4, 0, 0] := by rfl)
    (hoff' : off' = ![256 * (oslot c nO).val, 0] := by clear * -; revert c; decide +kernel) (hsm : sm = oS nO := by decide)
    (hlt : nO < 16 := by decide) (hW : nW ≤ nO := by decide) :
    iprop(S ∗ CmH m c sc nO nW ∗ R)
      ⊢ WP c (.op (.enqueueDma (osPart off inb) (.here (resPart off' inb')) (.dma sm) hsrc hdst hsem) k) Q :=
  lift₂ (step_out m c sc hoff hoff' hsm hlt hW) h

/-- Wait for the next copy to the result to complete. -/
theorem op_owait {R : sProp 𝕄} {α : Type} {Q : α → sProp 𝕄} {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (h : iprop(St m K c ns nr nw ∗ Cm m c sc nO (nW + 1) ∗ R) ⊢ WP c (k ⟨⟩) Q)
    (hsm : sm = oS nW := by decide) (hN : v'.view.dmaCredit = NO := by rfl) (hlt : nW < nO := by decide) (hO : nO ≤ nW + 4 := by decide) :
    iprop(St m K c ns nr nw ∗ Cm m c sc nO nW ∗ R) ⊢ WP c (.op (.waitDma2 sm v v' h1 h2) k) Q :=
  lift_both (step_owait m K c sc hsm hN hlt hO) h

end Cert.Proof.Ring
-- ==== Proof.StartOps.lean ====
/-
The operations of the kernel's beginning as steps of a run, and what the state of the beginning becomes.
-/
module

public import proofs.«01_k».proof.Proof.Startup
public import proofs.«01_k».proof.Proof.Ops

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ) (c : Dev nD)
variable {ns nr nw a b s r d t : ℕ}

/-- The device's number. -/
theorem op_dev {A : sProp 𝕄} {α : Type} {Q : α → sProp 𝕄} {k : Dev nD → Prog (TpuEff nD τ sig (Elt F) Λ₀ .tc) α}
    (h : A ⊢ WP c (k c) Q) : A ⊢ WP c (.op .deviceId k) Q := by
  unfold WP at h ⊢
  rw [wp_deviceId]
  exact h

/-- The end of a run. -/
theorem op_ret {A : sProp 𝕄} {α : Type} {Q : α → sProp 𝕄} {v : α} (h : A ⊢ Q v) : A ⊢ WP c (.ret v) Q := by
  unfold WP
  rw [wp_ret]
  iintro H
  imodintro
  iapply h
  iexact H

/-- Start the copy of the next quarter of the left operand. -/
theorem op_x {R S : sProp 𝕄} {α : Type} {Q : α → sProp 𝕄} {off : Fin 2 → ℕ} {off' : Fin 3 → ℕ} {inb inb'} {sm : DmaSem sig}
    {hsrc : (xPart off inb).view.WordExact} {hdst : (xsPart off' inb').view.WordExact}
    {hsem : DmaTarget.Typed (nD := nD) (τ := τ) (p := .tc) .hbm (.dma sm) (.here (xsPart off' inb'))}
    {k : PUnit → Prog (TpuEff nD τ sig (Elt F) Λ₀ .tc) α}
    (h : iprop(S ∗ PX m c (a + 1) b ∗ R) ⊢ WP c (k ⟨⟩) Q)
    (hoff : off = ![64 * (pq a).val, 0] := by rfl) (hoff' : off' = ![(pq a).val, 0, 0] := by rfl) (hsm : sm = xS a := by decide)
    (hlt : a < 4 := by decide) (hb : b ≤ a := by decide) :
    iprop(S ∗ PX m c a b ∗ R) ⊢ WP c (.op (.enqueueDma (xPart off inb) (.here (xsPart off' inb')) (.dma sm) hsrc hdst hsem) k) Q :=
  lift₂ (step_x m c hoff hoff' hsm hlt hb) h

/-- Wait for it. -/
theorem op_xwait {R : sProp 𝕄} {α : Type} {Q : α → sProp 𝕄} {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (h : iprop(St m K c ns nr nw ∗ PX m c a (b + 1) ∗ R) ⊢ WP c (k ⟨⟩) Q)
    (hsm : sm = xS b := by decide) (hN : v'.view.dmaCredit = NX := by rfl) (hlt : b < a := by decide) :
    iprop(St m K c ns nr nw ∗ PX m c a b ∗ R) ⊢ WP c (.op (.waitDma2 sm v v' h1 h2) k) Q :=
  lift_both (step_xwait m K c hsm hN hlt) h

/-- Load it. -/
theorem op_xld {R S : sProp 𝕄} {α : Type} {Q : α → sProp 𝕄} {off : Fin 3 → ℕ} {inb} {hl}
    {k : Vec F S1x64x4096 .f32 → Prog (TpuEff nD τ sig (Elt F) Λ₀ .tc) α}
    (h : iprop(S ∗ PX m c a (b + 1) ∗ R) ⊢ WP c (k (xsL m c (pq b) (xs_inb _))) Q) (hoff : off = ![(pq b).val, 0, 0] := by rfl) :
    iprop(S ∗ PX m c a (b + 1) ∗ R) ⊢ WP c (.op (.load xsM (Rect.unit (s := S4x64x4096) off S1x64x4096.size inb).toLoadRect hl) k) Q :=
  lift₂ (step_xld m c hoff) h

/-- Load the place of an own piece. -/
theorem op_xgld {R S X : sProp 𝕄} {α : Type} {Q : α → sProp 𝕄} {off : Fin 4 → ℕ} {inb} {hl}
    {k : Vec F S1x1x64x4096 .fp8e4m3 → Prog (TpuEff nD τ sig (Elt F) Λ₀ .tc) α}
    (h : ∀ v, iprop(S ∗ X ∗ PO m c s r ∗ R) ⊢ WP c (k v) Q)
    (hoff : off = ![c.val, s, 0, 0] := by clear * -; revert c; decide +kernel) (hlt : s < 4 := by decide) :
    iprop(S ∗ X ∗ PO m c s r ∗ R) ⊢ WP c (.op (.load xgM (Rect.unit (s := S16x4x64x4096) off S1x1x64x4096.size inb).toLoadRect hl) k) Q :=
  step_xgld m c hoff hlt h

/-- Store the own piece. -/
theorem op_xgst {R S X : sProp 𝕄} {α : Type} {Q : α → sProp 𝕄} {off : Fin 4 → ℕ} {inb} {w : Vec F S1x1x64x4096 .fp8e4m3} {hx hm}
    {k : PUnit → Prog (TpuEff nD τ sig (Elt F) Λ₀ .tc) α}
    (h : iprop(S ∗ X ∗ PO m c (s + 1) r ∗ R) ⊢ WP c (k ⟨⟩) Q)
    (hoff : off = ![c.val, s, 0, 0] := by clear * -; revert c; decide +kernel)
    (hw : w = k0_pay1 (xsL m c (pq s) (xs_inb _)) := by rfl) (hlt : s < 4 := by decide) (hr : r ≤ 2 * s := by decide) :
    iprop(S ∗ X ∗ PO m c s r ∗ R)
      ⊢ WP c (.op (.store xgM (Rect.unit (s := S16x4x64x4096) off S1x1x64x4096.size inb) w Finset.univ hx hm) k) Q :=
  lift₃ (step_xgst m c hoff hw hlt hr) h

/-- Send an own piece. -/
theorem op_own {R X : sProp 𝕄} {α : Type} {Q : α → sProp 𝕄} {dv : Dev nD} {off off' : Fin 4 → ℕ} {inb inb'} {s1 s2 : DmaSem sig}
    {hsc : (pieceM off' inb' : Memref sig (Dev.tc dv : Thread nD τ).2.kind .vmem S64x4096 .fp8e4m3).view.ref.isScScratch = false}
    {hsrc : (pieceM off inb).view.WordExact} {hdst : (pieceM off' inb').view.WordExact}
    {hsem : DmaTarget.Typed .vmem (.dma s2) (.remote (Dev.tc dv : Thread nD τ) (pieceM off' inb') (.dma s1) hsc)}
    {k : PUnit → Prog (TpuEff nD τ sig (Elt F) Λ₀ .tc) α}
    (h : iprop(St m K c (ns + 1) nr nw ∗ X ∗ PO m c s (ns + 1) ∗ R) ⊢ WP c (k ⟨⟩) Q)
    (hdv : dv = nb c ns := by clear * -; revert c; decide +kernel)
    (hoff : off = ![sslot c ns, pc ns, 0, 0] := by clear * -; revert c; decide +kernel)
    (hoff' : off' = ![sslot c ns, pc ns, 0, 0] := by clear * -; revert c; decide +kernel)
    (hs1 : s1 = sS ns := by decide) (hs2 : s2 = rS ns := by decide) (hlt : ns < 8 := by decide) (hnw : nw ≤ ns := by decide)
    (hnr : nr ≤ 60 := by decide) (hs : ns < 2 * s := by decide) :
    iprop(St m K c ns nr nw ∗ X ∗ PO m c s ns ∗ R)
      ⊢ WP c (.op (.enqueueDma (pieceM off inb) (.remote (Dev.tc dv : Thread nD τ) (pieceM off' inb') (.dma s1) hsc) (.dma s2) hsrc hdst hsem) k) Q :=
  lift_both₃ (step_ownsend m K c hdv hoff hoff' hs1 hs2 hlt hnw hnr hs) h

/-- Start the copy of a half of the right operand. -/
theorem op_w {R S X Y : sProp 𝕄} {α : Type} {Q : α → sProp 𝕄} {off : Fin 2 → ℕ} {inb} {sm : DmaSem sig}
    {hsrc : (wPart off inb).view.WordExact} {hdst : wsM.view.WordExact}
    {hsem : DmaTarget.Typed (nD := nD) (τ := τ) (p := .tc) .hbm (.dma sm) (.here wsM)}
    {k : PUnit → Prog (TpuEff nD τ sig (Elt F) Λ₀ .tc) α}
    (h : iprop(S ∗ X ∗ Y ∗ PWf m c d t ∗ R) ⊢ WP c (k ⟨⟩) Q)
    (hoff : off = ![2048 * (hq d).val, 0] := by rfl) (hsm : sm = wS := by decide) (hlt : d < 2 := by decide) :
    iprop(S ∗ X ∗ Y ∗ PW m c d t ∗ R) ⊢ WP c (.op (.enqueueDma (wPart off inb) (.here wsM) (.dma sm) hsrc hdst hsem) k) Q :=
  lift₄ (step_w m c hoff hsm hlt) h

/-- Wait for it. -/
theorem op_wwait {R X Y : sProp 𝕄} {α : Type} {Q : α → sProp 𝕄} {s s' : Shape} {e e' : EltTy} {sp sp' : Space} {κ' : Kind} {sm : DmaSem sig} {v : Memref sig .tc sp' s' e'} {v' : Memref sig κ' sp s e}
    {h1 : v.view.WordExact} {h2 : v'.view.WordExact} {k : PUnit → Prog (TpuEff nD τ sig (Elt F) Λ₀ .tc) α}
    (h : iprop(St m K c ns nr nw ∗ X ∗ Y ∗ PW m c (d + 1) t ∗ R) ⊢ WP c (k ⟨⟩) Q)
    (hsm : sm = wS := by decide) (hN : v'.view.dmaCredit = NW := by rfl) :
    iprop(St m K c ns nr nw ∗ X ∗ Y ∗ PWf m c d t ∗ R) ⊢ WP c (.op (.waitDma2 sm v v' h1 h2) k) Q :=
  lift_both₄ (step_wwait m K c hsm hN) h

/-- Load it. -/
theorem op_wld {R S X Y : sProp 𝕄} {α : Type} {Q : α → sProp 𝕄} {hl}
    {k : Vec F S2048x512 .f32 → Prog (TpuEff nD τ sig (Elt F) Λ₀ .tc) α}
    (h : iprop(S ∗ X ∗ Y ∗ PW m c (d + 1) t ∗ R) ⊢ WP c (k (wsV m c (hq d))) Q) :
    iprop(S ∗ X ∗ Y ∗ PW m c (d + 1) t ∗ R)
      ⊢ WP c (.op (.load wsM (Rect.unit (s := S2048x512) ![0, 0] S2048x512.size inb_S2048x512_S2048x512_0_0).toLoadRect hl) k) Q :=
  lift₄ (step_wld m c) h

/-- Load the place of a half of the narrowed right operand. -/
theorem op_w8ld {R S X Y : sProp 𝕄} {α : Type} {Q : α → sProp 𝕄} {off : Fin 2 → ℕ} {inb} {hl}
    {k : Vec F S2048x512 .fp8e5m2 → Prog (TpuEff nD τ sig (Elt F) Λ₀ .tc) α}
    (h : ∀ v, iprop(S ∗ X ∗ Y ∗ PW m c d t ∗ R) ⊢ WP c (k v) Q)
    (hoff : off = ![2048 * (hq t).val, 0] := by rfl) (hlt : t < 2 := by decide) :
    iprop(S ∗ X ∗ Y ∗ PW m c d t ∗ R) ⊢ WP c (.op (.load w8M (Rect.unit (s := S4096x512) off S2048x512.size inb).toLoadRect hl) k) Q :=
  step_w8ld m c hoff hlt h

/-- Store the half. -/
theorem op_w8st {R S X Y : sProp 𝕄} {α : Type} {Q : α → sProp 𝕄} {off : Fin 2 → ℕ} {inb} {w : Vec F S2048x512 .fp8e5m2} {hx hm}
    {k : PUnit → Prog (TpuEff nD τ sig (Elt F) Λ₀ .tc) α}
    (h : iprop(S ∗ X ∗ Y ∗ PW m c d (t + 1) ∗ R) ⊢ WP c (k ⟨⟩) Q)
    (hoff : off = ![2048 * (hq t).val, 0] := by rfl) (hw : w = k0_pay6 (wsV m c (hq t)) := by rfl) (hlt : t < 2 := by decide) :
    iprop(S ∗ X ∗ Y ∗ PW m c d t ∗ R)
      ⊢ WP c (.op (.store w8M (Rect.unit (s := S4096x512) off S2048x512.size inb) w Finset.univ hx hm) k) Q :=
  lift₄ (step_w8st m c hoff hw hlt) h

/-- Signal the device before. -/
theorem op_sig₀ {R : sProp 𝕄} {α : Type} {Q : α → sProp 𝕄} {dv : Dev nD} {z : ℤ} {k : PUnit → Prog (TpuEff nD τ sig (Elt F) Λ₀ .tc) α}
    (h : iprop(B₁ m K c ∗ R) ⊢ WP c (k ⟨⟩) Q) (hdv : dv = prv c := by clear * -; revert c; decide +kernel) (hz : z = ((1 : ℕ) : ℤ) := by decide) :
    iprop(B₀ m K c ∗ R) ⊢ WP c (.op (.semSignal (dv : Thread nD τ) barS z) k) Q :=
  lift (step_sig₀ m K c hdv hz) h

/-- Signal the next device. -/
theorem op_sig₁ {R : sProp 𝕄} {α : Type} {Q : α → sProp 𝕄} {dv : Dev nD} {z : ℤ} {k : PUnit → Prog (TpuEff nD τ sig (Elt F) Λ₀ .tc) α}
    (h : iprop(B₂ m K c ∗ R) ⊢ WP c (k ⟨⟩) Q) (hdv : dv = nxt c := by clear * -; revert c; decide +kernel) (hz : z = ((1 : ℕ) : ℤ) := by decide) :
    iprop(B₁ m K c ∗ R) ⊢ WP c (.op (.semSignal (dv : Thread nD τ) barS z) k) Q :=
  lift (step_sig₁ m K c hdv hz) h

/-- Wait for both neighbours. -/
theorem op_bar {R X Y Z V : sProp 𝕄} {α : Type} {Q : α → sProp 𝕄} {z : ℤ} {k : PUnit → Prog (TpuEff nD τ sig (Elt F) Λ₀ .tc) α}
    (h : iprop(St m K c 0 0 0 ∗ X ∗ Y ∗ Z ∗ V ∗ semVal (barCell c) 0 ∗ R) ⊢ WP c (k ⟨⟩) Q) (hz : z = ((2 : ℕ) : ℤ) := by decide) :
    iprop(B₂ m K c ∗ X ∗ Y ∗ Z ∗ V ∗ R) ⊢ WP c (.op (.semWait barS z) k) Q := by
  refine lift (step_bar m K c hz) (BIBase.Entails.trans ?_ h)
  iintro ⟨⟨HS, Hz⟩, HX, HY, HZ, HV, HR⟩
  isplitl [HS]; · iexact HS
  isplitl [HX]; · iexact HX
  isplitl [HY]; · iexact HY
  isplitl [HZ]; · iexact HZ
  isplitl [HV]; · iexact HV
  isplitl [Hz]; · iexact Hz
  iexact HR

/-- The two scales at contents `f` and `g`. -/
def Win (c : Dev nD) (f g : Vec F S1 .f32) : sProp 𝕄 :=
  iprop((((c : Thread nD τ).loc cc0_stg0_0) ↦{fullShare} f) ∗ (((c : Thread nD τ).loc cc0_stg1_0) ↦{fullShare} g))

/-- Read the left operand's scale. -/
theorem op_smem₀ {f g : Vec F S1 .f32} {R S X Y Z : sProp 𝕄} {α : Type} {Q : α → sProp 𝕄} {hl} {k : Vec F S1 .f32 → Prog (TpuEff nD τ sig (Elt F) Λ₀ .tc) α}
    (h : iprop(S ∗ X ∗ Y ∗ Z ∗ Win c f g ∗ R) ⊢ WP c (k f) Q) :
    iprop(S ∗ X ∗ Y ∗ Z ∗ Win c f g ∗ R)
      ⊢ WP c (.op (.load (Memref.whole cc0_stg0_0) (Rect.unit (s := S1) ![0] S1.size inb_S1_S1_0).toLoadRect hl) k) Q := by
  unfold Win at h ⊢
  iintro ⟨HS, HX, HY, HZ, ⟨Hf, Hg⟩, HR⟩
  have e : (Memref.whole cc0_stg0_0 : Memref sig .tc .smem S1 .f32).view.readAt (Elt F) (Rect.unit (s := S1) ![0] S1.size inb_S1_S1_0).toLoadRect f = f :=
    Memref.readAt_unit_zero (Elt F) cc0_stg0_0 (funext fun a => by fin_cases a; rfl) _ f
  iapply (wp_load 𝒱₀ (c : Thread nD τ) none Set.univ (m := (Memref.whole cc0_stg0_0 : Memref sig .tc .smem S1 .f32)) (Finset.subset_univ _)) $$ Hf
  iintro Hf
  rw [e]
  iapply h
  isplitl [HS]; · iexact HS
  isplitl [HX]; · iexact HX
  isplitl [HY]; · iexact HY
  isplitl [HZ]; · iexact HZ
  isplitl [Hf Hg]
  · isplitl [Hf]; · iexact Hf
    iexact Hg
  iexact HR

/-- Read the right operand's. -/
theorem op_smem₁ {f g : Vec F S1 .f32} {R S X Y Z : sProp 𝕄} {α : Type} {Q : α → sProp 𝕄} {hl} {k : Vec F S1 .f32 → Prog (TpuEff nD τ sig (Elt F) Λ₀ .tc) α}
    (h : iprop(S ∗ X ∗ Y ∗ Z ∗ Win c f g ∗ R) ⊢ WP c (k g) Q) :
    iprop(S ∗ X ∗ Y ∗ Z ∗ Win c f g ∗ R)
      ⊢ WP c (.op (.load (Memref.whole cc0_stg1_0) (Rect.unit (s := S1) ![0] S1.size inb_S1_S1_0).toLoadRect hl) k) Q := by
  unfold Win at h ⊢
  iintro ⟨HS, HX, HY, HZ, ⟨Hf, Hg⟩, HR⟩
  have e : (Memref.whole cc0_stg1_0 : Memref sig .tc .smem S1 .f32).view.readAt (Elt F) (Rect.unit (s := S1) ![0] S1.size inb_S1_S1_0).toLoadRect g = g :=
    Memref.readAt_unit_zero (Elt F) cc0_stg1_0 (funext fun a => by fin_cases a; rfl) _ g
  iapply (wp_load 𝒱₀ (c : Thread nD τ) none Set.univ (m := (Memref.whole cc0_stg1_0 : Memref sig .tc .smem S1 .f32)) (Finset.subset_univ _)) $$ Hg
  iintro Hg
  rw [e]
  iapply h
  isplitl [HS]; · iexact HS
  isplitl [HX]; · iexact HX
  isplitl [HY]; · iexact HY
  isplitl [HZ]; · iexact HZ
  isplitl [Hf Hg]
  · isplitl [Hf]; · iexact Hf
    iexact Hg
  iexact HR

/-- Load the own slab. -/
theorem op_slab_own {sc : F .f32} {nO nW : ℕ} {R S : sProp 𝕄} {α : Type} {Q : α → sProp 𝕄} {off : Fin 4 → ℕ} {inb} {hl}
    {k : Vec F S1x4x64x4096 .fp8e4m3 → Prog (TpuEff nD τ sig (Elt F) Λ₀ .tc) α}
    (h : iprop(S ∗ Cm m c sc nO nW ∗ R) ⊢ WP c (k (slabV m (oslot c 0))) Q)
    (hoff : off = ![(oslot c 0).val, 0, 0, 0] := by clear * -; revert c; decide +kernel) :
    iprop(S ∗ Cm m c sc nO nW ∗ R) ⊢ WP c (.op (.load xgM (Rect.unit (s := S16x4x64x4096) off S1x4x64x4096.size inb).toLoadRect hl) k) Q :=
  lift₂ (step_slab_own m c sc hoff) h

/-! ## From the beginning to the messages -/

/-- What the beginning leaves aside. -/
def Rest (c : Dev nD) (f g : Vec F S1 .f32) : sProp 𝕄 :=
  iprop(Win c f g ∗ semVal (barCell c) 0 ∗ bigSep (Finset.Ico 0 4) (XDone m c) ∗ bigSep (Finset.Ico 0 2) (WRows m c)
    ∗ WStage m c 2 ∗ semVal ((c : Thread nD τ), .dma wS) 0)

/-- The places of the results and the slots they are staged in. -/
def Places (c : Dev nD) : sProp 𝕄 := iprop(bigSep (Finset.Ico 0 16) (OutRaw (F := F) c) ∗ bigSep (Finset.Ico 0 4) (Free (F := F) c))

/-- A buffer held in parts is held whole. -/
theorem parts_whole {ℓ : Loc nD τ sig} {q : PosShare TreeShare} (f : Buf (Elt F) ℓ) (n : ℕ) (S : ℕ → Finset (Idx ℓ))
    (hd : ∀ p < n, ∀ p' < n, ∀ x, x ∈ S p → x ∈ S p' → p = p') (hc : ∀ x, ∃ p < n, x ∈ S p) :
    bigSep (Finset.Ico 0 n) (fun p => (ℓ ↦[S p]{q} f : sProp 𝕄)) = (ℓ ↦{q} f) := by
  have e : (Finset.univ : Finset (Idx ℓ)) = (Finset.Ico 0 n).biUnion S := by
    ext x
    obtain ⟨p, hp, hx⟩ := hc x
    exact ⟨fun _ => Finset.mem_biUnion.mpr ⟨p, Finset.mem_Ico.mpr ⟨Nat.zero_le _, hp⟩, hx⟩, fun _ => Finset.mem_univ _⟩
  rw [e, pointsTo_biUnion]
  intro t ht t' ht' hne
  exact Finset.disjoint_left.mpr fun x h h' => hne (hd t (Finset.mem_Ico.mp ht).2 t' (Finset.mem_Ico.mp ht').2 x h h')

/-- The same, each part at contents of its own. -/
theorem parts_join {ℓ : Loc nD τ sig} {q : PosShare TreeShare} (n : ℕ) (hn : 0 < n) (S : ℕ → Finset (Idx ℓ))
    (hd : ∀ p < n, ∀ p' < n, ∀ x, x ∈ S p → x ∈ S p' → p = p') (hc : ∀ x, ∃ p < n, x ∈ S p) :
    bigSep (Finset.Ico 0 n) (fun p => iprop(∃ f : Buf (Elt F) ℓ, ℓ ↦[S p]{q} f)) ⊢ (iprop(∃ f : Buf (Elt F) ℓ, ℓ ↦{q} f) : sProp 𝕄) := by
  have e : (Finset.univ : Finset (Idx ℓ)) = (Finset.Ico 0 n).biUnion S := by
    ext x
    obtain ⟨p, hp, hx⟩ := hc x
    exact ⟨fun _ => Finset.mem_biUnion.mpr ⟨p, Finset.mem_Ico.mpr ⟨Nat.zero_le _, hp⟩, hx⟩, fun _ => Finset.mem_univ _⟩
  haveI : ∀ e, Nonempty (Elt F e) := inferInstance
  haveI : Nonempty (Buf (Elt F) ℓ) := ⟨fun _ => Classical.arbitrary _⟩
  iintro H
  ihave H' := (BI.bigSep_exists_pi (Finset.Ico 0 n) (fun (p : ℕ) (f : Buf (Elt F) ℓ) => (ℓ ↦[S p]{q} f : sProp 𝕄))) $$ H
  icases H' with ⟨%fs, H⟩
  ihave H' := (pointsTo_biUnion_join (Finset.Ico 0 n) S fs (fs 0) (by
    intro t ht t' ht' hne
    exact Finset.disjoint_left.mpr fun x h h' => hne (hd t (Finset.mem_Ico.mp ht).2 t' (Finset.mem_Ico.mp ht').2 x h h'))) $$ H
  icases H' with ⟨%g, -, H⟩
  iexists g
  rw [e]
  iexact H

/-- A buffer held whole is held in parts, each at some contents. -/
theorem parts_split {ℓ : Loc nD τ sig} {q : PosShare TreeShare} (f : Buf (Elt F) ℓ) (n : ℕ) (S : ℕ → Finset (Idx ℓ))
    (hd : ∀ p < n, ∀ p' < n, ∀ x, x ∈ S p → x ∈ S p' → p = p') (hc : ∀ x, ∃ p < n, x ∈ S p) :
    (ℓ ↦{q} f : sProp 𝕄) ⊢ bigSep (Finset.Ico 0 n) (fun p => iprop(∃ f : Buf (Elt F) ℓ, ℓ ↦[S p]{q} f)) := by
  rw [← parts_whole f n S hd hc]
  refine bigSep_mono fun p _ => ?_
  show (ℓ ↦[S p]{q} f : sProp 𝕄) ⊢ iprop(∃ f : Buf (Elt F) ℓ, ℓ ↦[S p]{q} f)
  iintro H
  iexists f
  iexact H

theorem w_disj : ∀ p < 2, ∀ p' < 2, ∀ x, x ∈ wSet (hq p).val → x ∈ wSet (hq p').val → p = p' := by
  intro p hp p' hp' x h h'
  unfold wSet hq at h h'
  rw [Finset.mem_filter] at h h'
  dsimp only at h h'
  omega
theorem w_cover : ∀ x, ∃ p < 2, x ∈ wSet (hq p).val := by
  intro x
  have hx : (x 0).val < 4096 := (x 0).isLt
  refine ⟨(x 0).val / 2048, by omega, ?_⟩
  unfold wSet hq
  rw [Finset.mem_filter]
  dsimp only
  refine ⟨Finset.mem_univ _, ?_⟩
  omega

/-- What the beginning ends with is what the messages and products begin with. -/
theorem begun (sc : F .f32) (f g : Vec F S1 .f32) (ns nr nw : ℕ) (T : sProp 𝕄) :
    iprop(St m K c ns nr nw ∗ PX m c 4 4 ∗ PO m c 4 8 ∗ PW m c 2 2 ∗ Win c f g ∗ semVal (barCell c) 0 ∗ Places (F := F) c ∗ T)
      ⊢ iprop(St m K c ns nr nw ∗ Cm m c sc 0 0 ∗ Rest m c f g ∗ T) := by
  unfold PX PO PW W8s Cm Rest Places
  iintro ⟨HS, ⟨-, -, HX⟩, ⟨-, HL, -⟩, ⟨-, HR, ⟨Hst, Hz⟩, -, H8⟩, HW, Hb, ⟨HO, HF⟩, HT⟩
  isplitl [HS]; · iexact HS
  isplitl [HL H8 HO HF]
  · isplitl [H8]
    · unfold W8at
      rw [← parts_whole (ℓ := (c : Thread nD τ).loc cc0_scratch3) (W8 m c) 2 (fun p => wSet (hq p).val) w_disj w_cover]
      iexact H8
    isplitl [HL]; · iexact HL
    isplitl [HO]; · iexact HO
    simp only [Finset.Ico_self, bigSep_empty]
    isplitr; · iempintro
    isplitr; · iempintro
    iexact HF
  isplitr [HT]
  · isplitl [HW]; · iexact HW
    isplitl [Hb]; · iexact Hb
    isplitl [HX]; · iexact HX
    isplitl [HR]; · iexact HR
    isplitl [Hst]; · iexact Hst
    iexact Hz
  iexact HT

end Cert.Proof.Ring
-- ==== Proof.Ends.lean ====
/-
What a device's body begins with, made of what the launch gives, and what it ends with, made what the launch takes back.
-/
module

public import proofs.«01_k».proof.Proof.StartOps
public import proofs.«01_k».proof.Proof.Gen.KernelIdeal.Launch

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## Ranges -/

omit [FloatOps F] in
/-- A range counted from its beginning. -/
theorem bigSep_shift (a n : ℕ) (Φ : ℕ → sProp 𝕄) : bigSep (Finset.Ico a (a + n)) Φ = bigSep (Finset.Ico 0 n) fun j => Φ (a + j) := by
  rw [show Finset.Ico a (a + n) = (Finset.Ico 0 n).map (addLeftEmbedding a) by ext x; simp only [Finset.mem_map, Finset.mem_Ico, addLeftEmbedding_apply]; exact ⟨fun h => ⟨x - a, by omega⟩, fun ⟨y, h, e⟩ => by omega⟩, bigSep_map]
  rfl

omit [FloatOps F] in
/-- A range in two. -/
theorem bigSep_cut (a b : ℕ) (Φ : ℕ → sProp 𝕄) :
    bigSep (Finset.Ico 0 (a + b)) Φ = iprop(bigSep (Finset.Ico 0 a) Φ ∗ bigSep (Finset.Ico 0 b) fun j => Φ (a + j)) := by
  rw [← Finset.Ico_union_Ico_eq_Ico (Nat.zero_le a) (Nat.le_add_right a b), bigSep_union (Finset.Ico_disjoint_Ico_consecutive 0 a (a + b)), bigSep_shift]
  rfl

omit [FloatOps F] in
/-- Termwise. -/
theorem each {ι : Type} {s : Finset ι} {Φ Ψ : ι → sProp 𝕄} (h : ∀ i ∈ s, Φ i ⊢ Ψ i) : bigSep s Φ ⊢ bigSep s Ψ := bigSep_mono h

omit [FloatOps F] in
/-- By a property of the index. -/
theorem parted (s : Finset ℕ) (p : ℕ → Prop) [DecidablePred p] (Φ : ℕ → sProp 𝕄) :
    bigSep s Φ = iprop(bigSep (s.filter p) Φ ∗ bigSep (s.filter fun i => ¬ p i) Φ) := BI.bigSep_filter_split s p

omit [FloatOps F] in
/-- A pair at every index. -/
theorem paired {ι : Type} (s : Finset ι) (Φ Ψ : ι → sProp 𝕄) : bigSep s (fun i => iprop(Φ i ∗ Ψ i)) = iprop(bigSep s Φ ∗ bigSep s Ψ) := bigSep_sep' s Φ Ψ

omit [FloatOps F] in
/-- The indices named by numbers, and the rest. -/
theorem named {ι : Type} [Fintype ι] [DecidableEq ι] (n : ℕ) (k : ℕ → ι) (hk : Set.InjOn k (Finset.Ico 0 n : Finset ℕ)) (Φ : ι → sProp 𝕄) :
    bigSep Finset.univ Φ = iprop(bigSep (Finset.Ico 0 n) (fun j => Φ (k j)) ∗ bigSep (Finset.univ \ (Finset.Ico 0 n).image k) Φ) := by
  rw [← Finset.union_sdiff_of_subset (Finset.subset_univ ((Finset.Ico 0 n).image k)), bigSep_union Finset.disjoint_sdiff, bigSep_image_of_injOn hk]
  rw [Finset.union_sdiff_of_subset (Finset.subset_univ _)]
  rfl

/-! ## The semaphores -/

/-- The kernel's own semaphores, by number. -/
def osem (k : Fin 137) : SemLoc sig := .dma (⟨k.val + 2, by omega⟩ : Fin 139)

/-- Those the body uses: the sends', the receives', the copies'. -/
def semN (j : ℕ) : ℕ :=
  if j < 60 then sIdx j - 2 else if j < 120 then rIdx (j - 60) - 2 else if j < 124 then 128 + (j - 120) else if j < 125 then 132 else 133 + (j - 125)
def semK (j : ℕ) : Fin 137 := ⟨semN j % 137, Nat.mod_lt _ (by decide)⟩

theorem semK_inj : Set.InjOn semK (Finset.Ico 0 129 : Finset ℕ) := by
  have h : ∀ i ∈ Finset.Ico 0 129, ∀ j ∈ Finset.Ico 0 129, semK i = semK j → i = j := by decide +kernel
  exact fun i hi j hj e => h i (Finset.mem_coe.mp hi) j (Finset.mem_coe.mp hj) e

/-- The semaphores the body does not use. -/
def Spare (c : Dev nD) : sProp 𝕄 :=
  bigSep (Finset.univ \ (Finset.Ico 0 129).image semK) fun k => semVal ((c : Thread nD τ), osem k) 0
/-- The copies' semaphores. -/
def Sems (c : Dev nD) : sProp 𝕄 :=
  iprop(bigSep (Finset.Ico 0 4) (fun p => semVal ((c : Thread nD τ), .dma (xS p)) 0) ∗ semVal ((c : Thread nD τ), .dma wS) 0
    ∗ bigSep (Finset.Ico 0 4) (fun j => semVal ((c : Thread nD τ), .dma (oS j)) 0))

theorem semK_s : ∀ i < 60, osem (semK i) = .dma (sS i) := by decide +kernel
theorem semK_r : ∀ i < 60, osem (semK (60 + i)) = .dma (rS i) := by decide +kernel
theorem semK_x : ∀ i < 4, osem (semK (60 + (60 + i))) = .dma (xS i) := by decide +kernel
theorem semK_w : osem (semK (60 + (60 + (4 + 0)))) = .dma wS := by decide +kernel
theorem semK_o : ∀ i < 4, osem (semK (60 + (60 + (4 + (1 + i))))) = .dma (oS i) := by decide +kernel

omit [FloatOps F] in
/-- The own semaphores, sorted. -/
theorem ownSems_eq (c : Dev nD) :
    (Pipeline.ownSems0 (Ix := Unit) (Name := ℕ) (U := UU) (Lvl := ℕ) (Val := Elt F) (τ := τ) osem c : sProp 𝕄)
      = iprop((bigSep (Finset.Ico 0 60) (SZero c) ∗ bigSep (Finset.Ico 0 60) (RZero c) ∗ Sems c) ∗ Spare c) := by
  unfold Pipeline.ownSems0 Sems
  rw [named 129 semK semK_inj, show (129 : ℕ) = 60 + (60 + (4 + (1 + 4))) from rfl,
    bigSep_cut, bigSep_cut, bigSep_cut, bigSep_cut, show Finset.Ico 0 1 = {0} from rfl, bigSep_singleton, semK_w]
  refine congrArg (fun a => iprop(a ∗ Spare c)) ?_
  refine congrArg₂ (fun a b => iprop(a ∗ b)) (bigSep_congr fun i hi => ?_) (congrArg₂ (fun a b => iprop(a ∗ b)) (bigSep_congr fun i hi => ?_)
    (congrArg₂ (fun a b => iprop(a ∗ semVal ((c : Thread nD τ), .dma wS) 0 ∗ b)) (bigSep_congr fun i hi => ?_) (bigSep_congr fun i hi => ?_)))
  · rw [semK_s i (Finset.mem_Ico.mp hi).2]; rfl
  · rw [semK_r i (Finset.mem_Ico.mp hi).2]; rfl
  · rw [semK_x i (Finset.mem_Ico.mp hi).2]
  · rw [semK_o i (Finset.mem_Ico.mp hi).2]

/-! ## The parts of the buffers -/

theorem x_disj : ∀ p < 4, ∀ p' < 4, ∀ x, x ∈ xSet (pq p).val → x ∈ xSet (pq p').val → p = p' := by
  intro p hp p' hp' x h h'
  unfold xSet pq at h h'
  rw [Finset.mem_filter] at h h'
  dsimp only at h h'
  omega
theorem x_cover : ∀ x, ∃ p < 4, x ∈ xSet (pq p).val := by
  intro x
  have hx : (x 0).val < 256 := (x 0).isLt
  refine ⟨(x 0).val / 64, by omega, ?_⟩
  unfold xSet pq
  rw [Finset.mem_filter]
  dsimp only
  refine ⟨Finset.mem_univ _, ?_⟩
  omega
theorem xs_disj : ∀ p < 4, ∀ p' < 4, ∀ x, x ∈ xsSet (pq p).val → x ∈ xsSet (pq p').val → p = p' := by
  intro p hp p' hp' x h h'
  unfold xsSet pq at h h'
  rw [Finset.mem_filter] at h h'
  dsimp only at h h'
  omega
theorem xs_cover : ∀ x, ∃ p < 4, x ∈ xsSet (pq p).val := by
  intro x
  have hx : (x 0).val < 4 := (x 0).isLt
  refine ⟨(x 0).val, hx, ?_⟩
  unfold xsSet pq
  rw [Finset.mem_filter]
  dsimp only
  refine ⟨Finset.mem_univ _, ?_⟩
  omega
theorem os_disj : ∀ p < 4, ∀ p' < 4, ∀ x, x ∈ osSet (p % 4) → x ∈ osSet (p' % 4) → p = p' := by
  intro p hp p' hp' x h h'
  unfold osSet at h h'
  rw [Finset.mem_filter] at h h'
  omega
theorem os_cover : ∀ x, ∃ p < 4, x ∈ osSet (p % 4) := by
  intro x
  have hx : (x 0).val < 4 := (x 0).isLt
  refine ⟨(x 0).val, hx, ?_⟩
  unfold osSet
  rw [Finset.mem_filter]
  refine ⟨Finset.mem_univ _, ?_⟩
  omega
theorem oslot_surj : ∀ c : Dev nD, ∀ s : Fin 16, ∃ j < 16, oslot c j = s := by decide +kernel
theorem res_disj : ∀ j < 16, ∀ j' < 16, ∀ x, x ∈ resSet (oslot c j).val → x ∈ resSet (oslot c j').val → j = j' := by
  intro j hj j' hj' x h h'
  refine oslot_inj c j hj j' hj' (Fin.ext ?_)
  unfold resSet at h h'
  rw [Finset.mem_filter] at h h'
  omega
theorem res_cover : ∀ x, ∃ j < 16, x ∈ resSet (oslot c j).val := by
  intro x
  have hx : (x 0).val < 4096 := (x 0).isLt
  obtain ⟨j, hj, e⟩ := oslot_surj c ⟨(x 0).val / 256, by omega⟩
  refine ⟨j, hj, ?_⟩
  rw [e]
  unfold resSet
  rw [Finset.mem_filter]
  dsimp only
  refine ⟨Finset.mem_univ _, ?_⟩
  omega
theorem xg_disj : ∀ i < 64, ∀ j < 64, ∀ x, x ∈ pieceSet (rslot c i) (rpc i) → x ∈ pieceSet (rslot c j) (rpc j) → i = j := by
  intro i hi j hj x h h'
  unfold pieceSet at h h'
  rw [Finset.mem_filter] at h h'
  exact piece_inj c i hi j hj (h.2.1.symm.trans h'.2.1) (h.2.2.symm.trans h'.2.2)
theorem xg_cover : ∀ x, ∃ i < 64, x ∈ pieceSet (rslot c i) (rpc i) := by
  intro x
  obtain ⟨i, hi, e, e'⟩ := piece_surj c (x 0).val (x 0).isLt (x 1).val (x 1).isLt
  exact ⟨i, hi, Finset.mem_filter.mpr ⟨Finset.mem_univ _, e.symm, e'.symm⟩⟩

/-! ## The beginning -/

/-- The gathered buffer dealt: to the device before the places it sends to, to the next one those it sends to, and the
    own pieces kept. -/
theorem xg_deal : iprop(∃ f : Vec F S16x4x64x4096 .fp8e4m3, ((c : Thread nD τ).loc cc0_scratch0) ↦{fullShare} f)
    ⊢ (iprop(barPay (prv c) true ∗ barPay (nxt c) false ∗ bigSep (Finset.Ico 0 4) (OwnRaw c)) : sProp 𝕄) := by
  have h1 : ∀ i ∈ (Finset.Ico 0 60).filter (fun i => cw i = true),
      iprop(∃ f : Vec F S16x4x64x4096 .fp8e4m3, ((c : Thread nD τ).loc cc0_scratch0) ↦[pieceSet (rslot c i) (rpc i)]{fullShare} f) ⊢ (land (prv c) i : sProp 𝕄) := by
    intro i hi
    rw [Finset.mem_filter, Finset.mem_Ico] at hi
    have e1 : nb (prv c) i = c := by unfold nb; rw [if_pos hi.2, nxt_prv]
    have e2 : sslot (prv c) i = rslot c i := by rw [← rslot_nb _ i hi.1.2, e1]
    unfold land pce
    rw [e1, e2, show rpc i = pc i from if_pos hi.1.2]
  have h2 : ∀ i ∈ (Finset.Ico 0 60).filter (fun i => ¬ cw i = true),
      iprop(∃ f : Vec F S16x4x64x4096 .fp8e4m3, ((c : Thread nD τ).loc cc0_scratch0) ↦[pieceSet (rslot c i) (rpc i)]{fullShare} f) ⊢ (land (nxt c) i : sProp 𝕄) := by
    intro i hi
    rw [Finset.mem_filter, Finset.mem_Ico] at hi
    have e1 : nb (nxt c) i = c := by unfold nb; rw [if_neg hi.2, prv_nxt]
    have e2 : sslot (nxt c) i = rslot c i := by rw [← rslot_nb _ i hi.1.2, e1]
    unfold land pce
    rw [e1, e2, show rpc i = pc i from if_pos hi.1.2]
  iintro ⟨%f, H⟩
  ihave H' := (parts_split (ℓ := (c : Thread nD τ).loc cc0_scratch0) f 64 (fun i => pieceSet (rslot c i) (rpc i)) (xg_disj c) (xg_cover c)) $$ H
  ihave H := (Entails.of_eq (bigSep_cut 60 4 _)) $$ H'
  icases H with ⟨HP, HO⟩
  ihave HP' := (Entails.of_eq (parted (Finset.Ico 0 60) (fun i => cw i = true) _)) $$ HP
  icases HP' with ⟨HT, HF⟩
  isplitl [HT]
  · unfold barPay
    iapply (each h1); iexact HT
  isplitl [HF]
  · unfold barPay
    rw [show (Finset.Ico 0 60).filter (fun i => cw i = false) = (Finset.Ico 0 60).filter (fun i => ¬ cw i = true) from
      Finset.filter_congr fun i _ => by rw [Bool.not_eq_true]]
    iapply (each h2); iexact HF
  · iapply (each (s := Finset.Ico 0 4) (Ψ := OwnRaw (F := F) c) ?_) $$ HO
    intro p hp
    have e2 : rpc (60 + p) = p := by unfold rpc; rw [if_neg (by omega)]; omega
    have e1 : rslot c (60 + p) = c.val := by unfold rslot; rw [if_neg (by omega)]
    beta_reduce
    rw [e1, e2]
    exact BIBase.Entails.rfl

/-- A device's result array and blocks of the operands, the result at contents `r`. -/
def Arrs (c : Dev nD) (r : Vec F S4096x512 .f32) : sProp 𝕄 :=
  iprop((((c : Thread nD τ).loc main_arg0) ↦{fullShare} (xarg m c)) ∗ (((c : Thread nD τ).loc main_arg1) ↦{fullShare} (warg m c))
    ∗ (((c : Thread nD τ).loc main_v1) ↦{fullShare} r))

/-- What the launch gives a device is what its body begins with. -/
theorem enter (r : Vec F S4096x512 .f32) (f g : Vec F S1 .f32) :
    iprop((∃ W, owes (c : Thread nD τ) (O₀ c) W) ∗ (dutyTok ER (barCell (prv c)) 0 true ∗ dutyTok ER (barCell (nxt c)) 0 false) ∗ Early m K c
        ∗ Arrs m c r ∗ Sems c ∗ Spare c ∗ Pipeline.scopedRest cfg0.spec c ∗ Win c f g)
      ⊢ (iprop(B₀ m K c ∗ PX m c 0 0 ∗ PO m c 0 0 ∗ PW m c 0 0 ∗ Win c f g ∗ Places (F := F) c ∗ Spare c) : sProp 𝕄) := by
  rw [scopedRest0_eq]
  unfold Arrs Sems B₀ PX PO PW W8s Places
  iintro ⟨HO, ⟨HtP, HtN⟩, HE, ⟨Ha0, Ha1, Hv⟩, ⟨HzX, HzW, HzO⟩, Hsp, ⟨Hxg, ⟨%f1, Hxs⟩, ⟨%f2, Hws⟩, ⟨%f3, Hw8⟩, ⟨%f4, Hos⟩⟩, Hw⟩
  ihave Hx := (xg_deal (F := F) c) $$ Hxg
  icases Hx with ⟨HbP, HbN, Hown⟩
  ihave Ha0' := (Entails.of_eq (parts_whole (ℓ := (c : Thread nD τ).loc main_arg0) (xarg m c) 4 (fun p => xSet (pq p).val) x_disj x_cover).symm) $$ Ha0
  ihave Ha1' := (Entails.of_eq (parts_whole (ℓ := (c : Thread nD τ).loc main_arg1) (warg m c) 2 (fun p => wSet (hq p).val) w_disj w_cover).symm) $$ Ha1
  ihave Hv' := (parts_split (ℓ := (c : Thread nD τ).loc main_v1) r 16 (fun j => resSet (oslot c j).val) (res_disj c) (res_cover c)) $$ Hv
  ihave Hxs' := (parts_split (ℓ := (c : Thread nD τ).loc cc0_scratch1) f1 4 (fun p => xsSet (pq p).val) xs_disj xs_cover) $$ Hxs
  ihave Hw8' := (parts_split (ℓ := (c : Thread nD τ).loc cc0_scratch3) f3 2 (fun p => wSet (hq p).val) w_disj w_cover) $$ Hw8
  ihave Hos' := (parts_split (ℓ := (c : Thread nD τ).loc cc0_scratch4) f4 4 (fun p => osSet (p % 4)) os_disj os_cover) $$ Hos
  simp only [Finset.Ico_self, bigSep_empty, Nat.mul_zero]
  isplitl [HO HtP HtN HE HbP HbN]
  · isplitl [HO]; · iexact HO
    isplitl [HtP HbP]
    · isplitl [HtP]; · iexact HtP
      iexact HbP
    isplitl [HtN HbN]
    · isplitl [HtN]; · iexact HtN
      iexact HbN
    iexact HE
  isplitl [Ha0' Hxs' HzX]
  · isplitl [Ha0' Hxs' HzX]
    · unfold XRaw
      rw [paired, paired]
      isplitl [Ha0']; · iexact Ha0'
      isplitl [Hxs']; · iexact Hxs'
      iexact HzX
    isplitr; · iempintro
    iempintro
  isplitl [Hown]
  · isplitl [Hown]; · iexact Hown
    isplitr; · iempintro
    iempintro
  isplitl [Ha1' Hws HzW Hw8']
  · isplitl [Ha1']; · iexact Ha1'
    isplitr; · iempintro
    isplitl [Hws HzW]
    · isplitl [Hws]
      · unfold WStage
        iexists f2
        isplitr; · ipureintro; intro h hh; exact absurd hh (by omega)
        iexact Hws
      iexact HzW
    isplitl [Hw8']; · iexact Hw8'
    iempintro
  isplitl [Hw]; · iexact Hw
  isplitl [Hv' Hos' HzO]
  · isplitl [Hv']; · iexact Hv'
    unfold Free
    rw [paired]
    isplitl [Hos']; · iexact Hos'
    iexact HzO
  iexact Hsp

/-! ## The end -/

/-- The halves of an own piece and the sources of its two messages are the piece. -/
theorem own_join (s : ℕ) (hs : s < 4) : iprop(OwnL m c s ∗ Src m c (2 * s) ∗ Src m c (2 * s + 1)) ⊢ (pce c c.val s fullShare (gx m) : sProp 𝕄) := by
  rw [own_eq m c s hs]
  iintro ⟨Hl, Hrl, Hrr⟩
  iapply (pce_halves c _ _ _ _).2
  isplitl [Hl]; · iexact Hl
  iapply (pce_halves c _ _ _ _).2
  isplitl [Hrl]; · iexact Hrl
  iexact Hrr

/-- The source of a forwarded message is the half received for it. -/
theorem src_succ (j : ℕ) (hj : j < 60) (hs : succ j < 60) : (Src m c (succ j) : sProp 𝕄) = GotR m c j := by
  obtain ⟨e1, e2, h8⟩ := sslot_succ c j hj hs
  have h0 : hop (succ j) ≠ 0 := by unfold hop; split <;> omega
  unfold Src GotR shr
  rw [e1, e2, if_neg h0]

theorem succ_image : ((Finset.Ico 0 60).filter fun j => ¬ 60 ≤ succ j).image succ = Finset.Ico 8 60 := by decide +kernel

/-- All the pieces back: the gathered buffer is whole and holds every device's block. -/
theorem xg_back :
    iprop(bigSep (Finset.Ico 0 4) (OwnL m c) ∗ bigSep (Finset.Ico 0 60) (GotL m c) ∗ bigSep ((Finset.Ico 0 60).filter fun j => 60 ≤ succ j) (GotR m c)
        ∗ bigSep (Finset.Ico 0 60) (Src m c))
      ⊢ (((c : Thread nD τ).loc cc0_scratch0) ↦{fullShare} (gx m) : sProp 𝕄) := by
  have hfwd : bigSep (Finset.Ico 8 60) (Src m c) = bigSep ((Finset.Ico 0 60).filter fun j => ¬ 60 ≤ succ j) (GotR m c) := by
    rw [← succ_image, bigSep_image_of_injOn]
    · refine bigSep_congr fun j hj => ?_
      rw [Finset.mem_filter, Finset.mem_Ico] at hj
      exact src_succ m c j hj.1.2 (by omega)
    · intro a ha b hb e
      rw [Finset.mem_coe, Finset.mem_filter, Finset.mem_Ico] at ha hb
      exact succ_inj a ha.1.2 b hb.1.2 (by omega) e
  have hgot : ∀ i ∈ Finset.Ico 0 60, iprop(GotL m c i ∗ GotR m c i) ⊢ (pce c (rslot c i) (rpc i) fullShare (gx m) : sProp 𝕄) := by
    intro i hi
    rw [show rpc i = pc i from if_pos (Finset.mem_Ico.mp hi).2]
    exact (pce_halves c _ _ _ _).2
  have hown : ∀ p ∈ Finset.Ico 0 4, iprop(OwnL m c p ∗ Src m c (2 * p) ∗ Src m c (2 * p + 1)) ⊢ (pce c (rslot c (60 + p)) (rpc (60 + p)) fullShare (gx m) : sProp 𝕄) := by
    intro p hp
    have e2 : rpc (60 + p) = p := by unfold rpc; rw [if_neg (by omega)]; omega
    have e1 : rslot c (60 + p) = c.val := by unfold rslot; rw [if_neg (by omega)]
    rw [e1, e2]
    exact own_join m c p (Finset.mem_Ico.mp hp).2
  have height : bigSep (Finset.Ico 0 8) (Src m c) = iprop(bigSep (Finset.Ico 0 4) (fun p => Src m c (2 * p)) ∗ bigSep (Finset.Ico 0 4) fun p => Src m c (2 * p + 1)) := by
    have e : Finset.Ico 0 8 = (Finset.Ico 0 4).image (fun p => 2 * p) ∪ (Finset.Ico 0 4).image (fun p => 2 * p + 1) := by decide
    rw [e, bigSep_union (by decide), bigSep_image_of_injOn (fun a _ b _ h => by simpa using h), bigSep_image_of_injOn (fun a _ b _ h => by simpa using h)]
    rfl
  rw [← parts_whole (ℓ := (c : Thread nD τ).loc cc0_scratch0) (gx m) 64 (fun i => pieceSet (rslot c i) (rpc i)) (xg_disj c) (xg_cover c), show (64 : ℕ) = 60 + 4 from rfl,
    bigSep_cut 60 4]
  iintro ⟨HL, HG, HR, HS⟩
  ihave HS' := (Entails.of_eq (show bigSep (Finset.Ico 0 60) (Src m c) = iprop(bigSep (Finset.Ico 0 8) (Src m c) ∗ bigSep (Finset.Ico 8 60) (Src m c)) by
    rw [← Finset.Ico_union_Ico_eq_Ico (show 0 ≤ 8 by decide) (show 8 ≤ 60 by decide), bigSep_union (Finset.Ico_disjoint_Ico_consecutive 0 8 60)]; rfl)) $$ HS
  icases HS' with ⟨H8, HF⟩
  isplitl [HG HR HF]
  · ihave HF' := (Entails.of_eq hfwd) $$ HF
    iapply (each hgot)
    rw [paired]
    isplitl [HG]; · iexact HG
    iapply (Entails.of_eq (parted (Finset.Ico 0 60) (fun j => 60 ≤ succ j) _).symm)
    isplitl [HR]; · iexact HR
    iexact HF'
  · ihave H8' := (Entails.of_eq height) $$ H8
    icases H8' with ⟨He, Ho⟩
    iapply (each hown)
    rw [paired, paired]
    isplitl [HL]; · iexact HL
    isplitl [He]; · iexact He
    iexact Ho

/-- What the body ends with is what the launch takes back, the result computed. -/
theorem leave (sc : F .f32) (f g : Vec F S1 .f32) :
    iprop(St m K c 60 60 60 ∗ Cm m c sc 16 16 ∗ Rest m c f g ∗ Spare c)
      ⊢ (iprop((∃ W, owes (c : Thread nD τ) 0 W) ∗ Win c f g ∗ Arrs m c (OUT m c sc) ∗ semVal (barCell c) 0
        ∗ Pipeline.ownSems0 osem c ∗ Pipeline.scopedRest cfg0.spec c) : sProp 𝕄) := by
  rw [scopedRest0_eq, ownSems_eq]
  unfold St Cm Rest Arrs Sems
  rw [owedR_end]
  iintro ⟨⟨-, -, HO, -, -, -, -, HGL, HGR, HSrc, HRz, HSz⟩, ⟨Hw8, HOL, -, -, Hout, Hfree⟩, ⟨Hw, Hb, HX, HW, Hst, Hzw⟩, Hsp⟩
  ihave Hxg := (xg_back m c) $$ [HGL HGR HSrc HOL]
  · isplitl [HOL]; · iexact HOL
    isplitl [HGL]; · iexact HGL
    isplitl [HGR]; · iexact HGR
    iexact HSrc
  ihave HX' := (Entails.of_eq (show bigSep (Finset.Ico 0 4) (XDone m c) = iprop((bigSep (Finset.Ico 0 4) (XRows m c)
      ∗ bigSep (Finset.Ico 0 4) (fun p => xslotAt c p (xsV m c (pq p)))) ∗ bigSep (Finset.Ico 0 4) (fun p => semVal ((c : Thread nD τ), .dma (xS p)) 0)) by
    unfold XDone; rw [paired, paired])) $$ HX
  icases HX' with ⟨⟨Hxr, Hxs⟩, HzX⟩
  ihave Hfree' := (Entails.of_eq (bigSep_shift 16 4 _)) $$ Hfree
  ihave Hfree := (Entails.of_eq (show bigSep (Finset.Ico 0 4) (fun j => Free (F := F) c (16 + j)) = iprop(bigSep (Finset.Ico 0 4) (fun j => iprop(∃ f, slotAt (F := F) c ((16 + j) % 4) f))
      ∗ bigSep (Finset.Ico 0 4) (fun j => semVal ((c : Thread nD τ), .dma (oS (16 + j))) 0)) by
    unfold Free; rw [paired])) $$ Hfree'
  icases Hfree with ⟨Hos, HzO⟩
  unfold WStage
  icases Hst with ⟨%fst, -, Hst⟩
  isplitl [HO]; · iexact HO
  isplitl [Hw]; · iexact Hw
  isplitl [Hxr HW Hout]
  · isplitl [Hxr]
    · iapply (Entails.of_eq (parts_whole (ℓ := (c : Thread nD τ).loc main_arg0) (xarg m c) 4 (fun p => xSet (pq p).val) x_disj x_cover)); iexact Hxr
    isplitl [HW]
    · iapply (Entails.of_eq (parts_whole (ℓ := (c : Thread nD τ).loc main_arg1) (warg m c) 2 (fun p => wSet (hq p).val) w_disj w_cover)); iexact HW
    iapply (Entails.of_eq (parts_whole (ℓ := (c : Thread nD τ).loc main_v1) (OUT m c sc) 16 (fun j => resSet (oslot c j).val) (res_disj c) (res_cover c))); iexact Hout
  isplitl [Hb]; · iexact Hb
  isplitl [HSz HRz HzX Hzw HzO Hsp]
  · isplitr [Hsp]
    · isplitl [HSz]; · iexact HSz
      isplitl [HRz]; · iexact HRz
      isplitl [HzX]; · iexact HzX
      isplitl [Hzw]; · iexact Hzw
      iapply (each (s := Finset.Ico 0 4) (Ψ := fun j => semVal ((c : Thread nD τ), .dma (oS j)) 0) ?_) $$ HzO
      intro j _
      beta_reduce
      rw [Nat.add_comm 16 j, show j + 16 = j + 4 + 4 + 4 + 4 from rfl, oS_add, oS_add, oS_add, oS_add]
    iexact Hsp
  isplitl [Hxg]; · iexists _; iexact Hxg
  isplitl [Hxs]
  · iapply (parts_join (ℓ := (c : Thread nD τ).loc cc0_scratch1) 4 (by decide) (fun p => xsSet (pq p).val) xs_disj xs_cover)
    iapply (each (s := Finset.Ico 0 4) ?_) $$ Hxs
    intro p _
    beta_reduce
    exact exists_intro (Φ := fun f => xslotAt c p f) (xsV m c (pq p))
  isplitl [Hst]; · iexists _; iexact Hst
  isplitl [Hw8]; · unfold W8at; iexists _; iexact Hw8
  iapply (parts_join (ℓ := (c : Thread nD τ).loc cc0_scratch4) 4 (by decide) (fun p => osSet (p % 4)) os_disj os_cover)
  iapply (each (s := Finset.Ico 0 4) ?_) $$ Hos
  intro j _
  beta_reduce
  rw [show (16 + j) % 4 = j % 4 by omega]
  exact BIBase.Entails.rfl

end Cert.Proof.Ring
-- ==== Proof.Deal.lean ====
/-
What the launch deals: the cells' invariants, the positions, the tokens of the duties each device pays, and the credits.
-/
module

public import proofs.«01_k».proof.Proof.Ends
public import Idealize.ShloMosaic.Lib.Ring

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ) (c : Dev nD)

omit [FloatOps F] in
/-- Two indices, in either order. -/
theorem swapped {ι κ : Type} [DecidableEq κ] (s : Finset ι) (t : Finset κ) (Φ : ι → κ → sProp 𝕄) :
    (bigSep s fun i => bigSep t fun j => Φ i j) = bigSep t fun j => bigSep s fun i => Φ i j := by
  induction t using Finset.induction_on with
  | empty => simp only [bigSep_empty]; exact bigSep_emp_const s
  | insert j t hj ih =>
    rw [bigSep_insert hj, ← ih]
    exact (bigSep_congr fun i _ => bigSep_insert hj).trans (paired s _ _)

/-! ## The cells of the ring, device by device -/

/-- `Φ` of every cell of device `c`. -/
def cellsOf (Φ : GSem nD τ sig → sProp 𝕄) (c : Dev nD) : sProp 𝕄 :=
  iprop(Φ (barCell c) ∗ bigSep (Finset.Ico 0 60) (fun i => Φ (sCell c i)) ∗ bigSep (Finset.Ico 0 60) (fun i => Φ (rCell c i)))

omit [FloatOps F] in
theorem cells_split (Φ : GSem nD τ sig → sProp 𝕄) (c : Dev nD) : (bigSep Finset.univ fun k : Fin 121 => Φ (kcell (c, k))) = cellsOf Φ c := by
  rw [Ring.bigSep_fin_eq_range 121 (fun k : Fin 121 => Φ (kcell (c, k))) (fun j => Φ (kcell (c, ⟨j % 121, Nat.mod_lt _ (by decide)⟩)))
    (fun t h => by congr 3; exact Fin.ext (Nat.mod_eq_of_lt h)),
    Finset.range_eq_Ico, show Finset.Ico 0 121 = Finset.Ico 0 (1 + (60 + 60)) from rfl, bigSep_cut, bigSep_cut, show Finset.Ico 0 1 = {0} from rfl, bigSep_singleton]
  unfold cellsOf
  refine congrArg₂ (fun a b => iprop(a ∗ b)) rfl (congrArg₂ (fun a b => iprop(a ∗ b)) (bigSep_congr fun i hi => ?_) (bigSep_congr fun i hi => ?_))
  · have h := (Finset.mem_Ico.mp hi).2
    unfold kcell csem; dsimp only
    rw [if_neg (by omega), if_pos (by omega), show (1 + i) % 121 - 1 = i by omega]
  · have h := (Finset.mem_Ico.mp hi).2
    unfold kcell csem; dsimp only
    rw [if_neg (by omega), if_neg (by omega), show (1 + (60 + i)) % 121 - 61 = i by omega]

omit [FloatOps F] in
theorem cells_eq (Φ : GSem nD τ sig → sProp 𝕄) : bigSep ringCells Φ = bigSep Finset.univ (cellsOf Φ) := by
  unfold ringCells
  rw [bigSep_map, bigSep_univ_prod]
  exact bigSep_congr fun c _ => cells_split Φ c

/-! ## The duties' tokens -/

/-- A device's own cells' tokens, numbered: the barrier's two, then one for each other cell. -/
def tokOf (cj : Dev nD × Fin 122) : GSem nD τ sig × ℕ × Bool := (kcell (cj.1, ⟨cj.2.val - 1, by have := cj.2.isLt; omega⟩), 0, decide (cj.2.val = 1))
theorem tokOf_injective : Function.Injective tokOf := by
  rintro ⟨c, j⟩ ⟨c', j'⟩ h
  have h1 := kcell_injective (congrArg Prod.fst h)
  have h2 : decide (j.val = 1) = decide (j'.val = 1) := congrArg (fun x : GSem nD τ sig × ℕ × Bool => x.2.2) h
  have h3 : c = c' := congrArg Prod.fst h1
  have h4 : j.val - 1 = j'.val - 1 := congrArg (fun x : Dev nD × Fin 121 => x.2.val) h1
  rw [decide_eq_decide] at h2
  rw [h3, show j = j' from Fin.ext (by omega)]
def ringToks : Finset (GSem nD τ sig × ℕ × Bool) := Finset.univ.map ⟨tokOf, tokOf_injective⟩

/-- The tokens of a device's own cells. -/
def toks (c : Dev nD) : sProp 𝕄 :=
  iprop((dutyTok ER (barCell c) 0 false ∗ dutyTok ER (barCell c) 0 true)
    ∗ bigSep (Finset.Ico 0 60) (fun i => dutyTok ER (sCell c i) 0 false) ∗ bigSep (Finset.Ico 0 60) (fun i => dutyTok ER (rCell c i) 0 false))
/-- The tokens a device pays with. -/
def payToks (c : Dev nD) : sProp 𝕄 :=
  iprop((dutyTok ER (barCell (prv c)) 0 true ∗ dutyTok ER (barCell (nxt c)) 0 false)
    ∗ bigSep (Finset.Ico 0 60) (fun i => iprop(dutyTok ER (sCell c i) 0 false ∗ dutyTok ER (rCell (nb c i) i) 0 false)))

omit [FloatOps F] in
theorem toks_eq : bigSep ringToks (fun x => (dutyTok ER x.1 x.2.1 x.2.2 : sProp 𝕄)) = bigSep Finset.univ (toks (F := F)) := by
  unfold ringToks
  rw [bigSep_map, bigSep_univ_prod]
  refine bigSep_congr fun c _ => ?_
  show (bigSep Finset.univ fun j : Fin 122 => (dutyTok ER (tokOf (c, j)).1 (tokOf (c, j)).2.1 (tokOf (c, j)).2.2 : sProp 𝕄)) = _
  rw [Ring.bigSep_fin_eq_range 122 (fun j : Fin 122 => (dutyTok ER (tokOf (c, j)).1 (tokOf (c, j)).2.1 (tokOf (c, j)).2.2 : sProp 𝕄))
    (fun j => dutyTok ER (kcell (c, ⟨(j - 1) % 121, Nat.mod_lt _ (by decide)⟩)) 0 (decide (j = 1)))
    (fun t h => by unfold tokOf; dsimp only; congr 3; exact Fin.ext (Nat.mod_eq_of_lt (by omega))),
    Finset.range_eq_Ico, show Finset.Ico 0 122 = Finset.Ico 0 ((1 + 1) + (60 + 60)) from rfl, bigSep_cut, bigSep_cut, bigSep_cut, show Finset.Ico 0 1 = {0} from rfl, bigSep_singleton, bigSep_singleton]
  unfold toks
  refine congrArg₂ (fun a b => iprop(a ∗ b)) rfl (congrArg₂ (fun a b => iprop(a ∗ b)) (bigSep_congr fun i hi => ?_) (bigSep_congr fun i hi => ?_))
  · have h := (Finset.mem_Ico.mp hi).2
    unfold kcell csem; dsimp only
    rw [if_neg (by omega), if_pos (by omega), show (1 + 1 + i - 1) % 121 - 1 = i by omega, decide_eq_false (by omega)]
  · have h := (Finset.mem_Ico.mp hi).2
    unfold kcell csem; dsimp only
    rw [if_neg (by omega), if_neg (by omega), show (1 + 1 + (60 + i) - 1) % 121 - 61 = i by omega, decide_eq_false (by omega)]

/-- The device message `i` goes to, as a permutation. -/
def nbEquiv (i : ℕ) : Dev nD ≃ Dev nD := ⟨fun c => nb c i, fun c => sb c i, fun c => sb_nb c i, fun c => nb_sb c i⟩

omit [FloatOps F] in
/-- The tokens handed to the devices that pay with them. -/
theorem toks_around : bigSep Finset.univ (toks (F := F)) ⊢ (bigSep Finset.univ payToks : sProp 𝕄) := by
  have hr : (bigSep Finset.univ fun c : Dev nD => bigSep (Finset.Ico 0 60) fun i => (dutyTok ER (rCell c i) 0 false : sProp 𝕄))
      = bigSep Finset.univ fun c : Dev nD => bigSep (Finset.Ico 0 60) fun i => dutyTok ER (rCell (nb c i) i) 0 false := by
    rw [swapped, swapped Finset.univ]
    exact bigSep_congr fun i _ => bigSep_univ_equiv (nbEquiv i) (fun c => (dutyTok ER (rCell c i) 0 false : sProp 𝕄))
  have hs : (fun c : Dev nD => bigSep (Finset.Ico 0 60) fun i => iprop(dutyTok ER (sCell c i) 0 false ∗ dutyTok ER (rCell (nb c i) i) 0 false))
      = fun c : Dev nD => (iprop(bigSep (Finset.Ico 0 60) (fun i => dutyTok ER (sCell c i) 0 false) ∗ bigSep (Finset.Ico 0 60) (fun i => dutyTok ER (rCell (nb c i) i) 0 false)) : sProp 𝕄) :=
    funext fun c => paired _ _ _
  unfold toks payToks
  rw [paired, paired, paired, paired, paired, hs, paired, hr,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H1 H2]
  · isplitl [H2]; · iexact H2
    iexact H1
  isplitl [H3]; · iexact H3
  iexact H4

/-! ## The global step -/

/-- What the launch element deals device `c`. -/
def G (c : Dev nD) : sProp 𝕄 :=
  iprop(cellsOf (fun g => roundState ER (ringRd m) g 0) c ∗ cellsOf (fun g => atPos ER g 0 ∅ 0) c ∗ cellsOf (fun g => reached ER g 0) c ∗ toks c)
/-- What a device starts with of it, and of the semaphores. -/
def linear (c : Dev nD) : sProp 𝕄 := iprop(cellsOf (fun g => atPos ER g 0 ∅ 0) c ∗ payToks c ∗ Sems c ∗ Spare c)
/-- That, and every cell's record. -/
def G' (c : Dev nD) : sProp 𝕄 := iprop(∃ K, recs m K ∗ linear c)

/-- The ring's element, dealt. -/
theorem fund_ring : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst' := (Entails.of_eq (cells_eq fun g => roundState ER (ringRd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq (toks_eq (F := F))) $$ Htok
  unfold G
  rw [paired, paired, paired]
  isplitl [Hst']; · iexact Hst'
  isplitl [Hat']; · iexact Hat'
  isplitl [Hr']; · iexact Hr'
  iexact Htok'

omit [FloatOps F] in
/-- The barrier semaphore is the one the launch leaves unscoped. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores: the ring's cells, the copies', the unused. -/
theorem sems_cells (c : Dev nD) :
    iprop(Pipeline.ownSems0 (Ix := Unit) (Name := ℕ) (U := UU) (Lvl := ℕ) (Val := Elt F) (τ := τ) osem c ∗ unscopedSems0 c)
      ⊢ (iprop(cellsOf (fun g => semVal g 0) c ∗ Sems c ∗ Spare c) : sProp 𝕄) := by
  rw [ownSems_eq, unscopedSems_eq]
  unfold cellsOf
  iintro ⟨⟨⟨HS, HR, HC⟩, Hsp⟩, HB⟩
  isplitl [HB HS HR]
  · isplitl [HB]; · iexact HB
    isplitl [HS]; · iexact HS
    iexact HR
  isplitl [HC]; · iexact HC
  iexact Hsp

/-- The cells' invariants, allocated together. -/
theorem invs_alloc : iprop(bigSep ringCells (fun g => semVal g 0) ∗ bigSep ringCells (fun g => roundState ER (ringRd m) g 0))
    ⊢ (|={Set.univ}=> iprop(∃ K : GSem nD τ sig → ℕ, bigSep ringCells fun g => cellInv ER (ringRd m) (K g) g) : sProp 𝕄) := by
  refine (Rounds.bodies_intro ER (ringRd m) ringCells).trans ((inv_alloc_family ringCells (Rounds.body ER (ringRd m)) ∅ (E := Set.univ)).trans ?_)
  iintro H
  imod H with ⟨%κ, -, Hinv⟩
  imodintro; iexists κ; iexact Hinv

omit [FloatOps F] in
/-- Something persistent goes to every index. -/
theorem with_all {ι : Type} [DecidableEq ι] {s : Finset ι} {R : sProp 𝕄} [BI.Persistent R] {Φ Ψ : ι → sProp 𝕄}
    (h : ∀ i ∈ s, iprop(R ∗ Φ i) ⊢ Ψ i) : iprop(R ∗ bigSep s Φ) ⊢ bigSep s Ψ :=
  (sep_mono_left (BI.bigSep_of_persistent s R)).trans (by rw [← paired]; exact each h)

/-- Every device's semaphores and its part of the ring's element, made what each starts with. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) := by
  have hcore : ∀ c ∈ (Finset.univ : Finset (Dev nD)), iprop(Pipeline.ownSems0 (Ix := Unit) (Name := ℕ) (U := UU) (Lvl := ℕ) (Val := Elt F) (τ := τ) osem c ∗ unscopedSems0 c ∗ G m c)
      ⊢ (iprop(cellsOf (fun g => semVal g 0) c ∗ cellsOf (fun g => roundState ER (ringRd m) g 0) c ∗ cellsOf (fun g => reached ER g 0) c
          ∗ cellsOf (fun g => atPos ER g 0 ∅ 0) c ∗ toks c ∗ Sems c ∗ Spare c) : sProp 𝕄) := by
    intro c _
    unfold G
    iintro ⟨Ho, Hu, H1, H2, H3, H4⟩
    ihave Hs := (sems_cells (F := F) c) $$ [Ho Hu]
    · isplitl [Ho] <;> iassumption
    icases Hs with ⟨Hc, HC, Hsp⟩
    isplitl [Hc]; · iexact Hc
    isplitl [H1]; · iexact H1
    isplitl [H3]; · iexact H3
    isplitl [H2]; · iexact H2
    isplitl [H4]; · iexact H4
    isplitl [HC]; · iexact HC
    iexact Hsp
  refine (each hcore).trans ?_
  rw [paired, paired, paired, paired, paired, paired, ← cells_eq, ← cells_eq, ← cells_eq]
  iintro ⟨Hv, Hst, Hr, Hat, Htok, HC, Hsp⟩
  imod (invs_alloc m) $$ [Hv Hst] with ⟨%K, Hinv⟩
  · isplitl [Hv] <;> iassumption
  imodintro
  ihave Htok' := (toks_around (F := F)) $$ Htok
  iapply (with_all (R := recs m K) (Φ := linear) (Ψ := G' m) (fun c _ => by unfold G'; iintro ⟨H, H'⟩; iexists K; isplitl [H] <;> iassumption))
  isplitl [Hinv Hr]
  · unfold recs
    rw [paired]
    isplitl [Hinv] <;> iassumption
  · unfold linear
    rw [paired, paired, paired]
    isplitl [Hat]; · iexact Hat
    isplitl [Htok']; · iexact Htok'
    isplitl [HC] <;> iassumption

/-! ## The credits -/

theorem bar_eq_iff {a b : Dev nD} : Iff (barCell a = barCell b) (a = b) :=
  ⟨fun h => Fin.ext (congrArg (fun g : GSem nD τ sig => g.1.1.val) h), fun h => h ▸ rfl⟩
theorem rS_inj : ∀ i < 60, ∀ j < 60, rS i = rS j → i = j := by decide +kernel
theorem r_eq_iff {a b : Dev nD} {i j : ℕ} (hi : i < 60) (hj : j < 60) : Iff (rCell a i = rCell b j) (a = b ∧ i = j) :=
  ⟨fun h => ⟨Fin.ext (congrArg (fun g : GSem nD τ sig => g.1.1.val) h), rS_inj i hi j hj (SemLoc.dma.inj (congrArg Prod.snd h))⟩, fun h => by rw [h.1, h.2]⟩
theorem r_ne_bar {a b : Dev nD} {i : ℕ} : rCell a i ≠ barCell b := fun h => by cases congrArg Prod.snd h

/-- What device `d` owes the receive cell of message `i` on device `c`. -/
theorem owed_r (d c : Dev nD) (i : ℕ) (hi : i < 60) : O₀ d (rCell c i) () = if d = sb c i then N else 0 := by
  unfold O₀ O₁ owedR
  rw [Pi.add_apply, Finsupp.add_apply, Pi.add_apply, Finsupp.add_apply, tallyAt_ne_cell r_ne_bar, tallyAt_ne_cell r_ne_bar, Finsupp.zero_apply, Nat.add_zero, Nat.add_zero,
    Finset.sum_apply, Finsupp.finset_sum_apply, Finset.sum_eq_single i]
  · rw [tallyAt_apply]
    by_cases h : d = sb c i
    · subst h; rw [nb_sb, if_pos ⟨rfl, rfl⟩, if_pos rfl]
    · rw [if_neg (fun h' => h ?_), if_neg h]
      rw [((r_eq_iff hi hi).mp h'.1).1, sb_nb]
  · intro j hj hne
    rw [tallyAt_apply, if_neg fun h => hne ((r_eq_iff hi (Finset.mem_Ico.mp hj).2).mp h.1).2.symm]
  · exact fun h => absurd (Finset.mem_Ico.mpr ⟨Nat.zero_le _, hi⟩) h

/-- What device `d` owes the barrier cell of device `c`. -/
theorem owed_bar (d c : Dev nD) : O₀ d (barCell c) () = (if d = prv c then 1 else 0) + (if d = nxt c then 1 else 0) := by
  unfold O₀ O₁ owedR
  rw [Pi.add_apply, Finsupp.add_apply, Pi.add_apply, Finsupp.add_apply, Finset.sum_apply, Finsupp.finset_sum_apply,
    Finset.sum_eq_zero (fun j _ => by rw [tallyAt_ne_cell (fun h => r_ne_bar h.symm)]; rfl), Nat.zero_add, tallyAt_apply, tallyAt_apply]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_r (c : Dev nD) (i : ℕ) (hi : i < 60) :
    tallyOn (rCell c i) (launchCredit (Pipeline.owing O₀) 0 (rCell c i)) = (tallyAt (rCell c i) () N : CellTallies nD τ sig Unit) := by
  unfold tallyAt; refine congrArg _ (Finsupp.ext fun u => ?_); cases u
  rw [Pipeline.launchCredit_owing, Finsupp.single_eq_same, Finset.sum_congr rfl fun d _ => owed_r d c i hi, Finset.sum_ite_eq' Finset.univ (sb c i) fun _ => N,
    if_pos (Finset.mem_univ _)]

omit [FloatOps F] in
/-- A device's credits: its barrier's two units and its receive cells' transfers. -/
theorem creds (c : Dev nD) :
    (Pipeline.launchCred O₀ c : sProp 𝕄) ⊢ iprop(cred (tallyAt (barCell c) () 2) ∗ bigSep (Finset.Ico 0 60) fun i => cred (tallyAt (rCell c i) () N)) := by
  unfold Pipeline.launchCred
  refine (bigSep_subset (Finset.subset_univ (Finset.univ.map ⟨csem, csem_injective⟩))).trans ?_
  rw [bigSep_map]
  refine (Entails.of_eq (cells_split (fun g => cred (tallyOn g (launchCredit (Pipeline.owing O₀) 0 g))) c)).trans ?_
  unfold cellsOf
  beta_reduce
  rw [launch_bar]
  iintro ⟨HB, -, HR⟩
  isplitl [HB]; · iexact HB
  iapply (each (s := Finset.Ico 0 60) ?_) $$ HR
  intro i hi
  exact Entails.of_eq (by rw [launch_r c i (Finset.mem_Ico.mp hi).2])

end Cert.Proof.Ring
-- ==== Proof.Body.lean ====
/-
The kernel's body on one device, run operation by operation in the order of the program.
-/
module

public import proofs.«01_k».proof.Proof.StartOps
public import proofs.«01_k».proof.Proof.Gen.KernelIdeal.Points

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : GSem nD τ sig → ℕ) (c : Dev nD) (f g : Vec F S1 .f32)

/-- The product of the two scales. -/
def scl (f g : Vec F S1 .f32) : F .f32 :=
  Scalar.mulf (f (Shape.Idx.first (numel1_S1.symm ▸ Nat.one_pos))) (g (Shape.Idx.first (numel1_S1.symm ▸ Nat.one_pos)))

/-- The kernel's body as the launch calls it. -/
abbrev body : Prog (TpuEff nD τ sig (Elt F) Λ₀ .tc) PUnit :=
  cc0_body (Memref.whole main_arg0) (Memref.isWhole_whole _) (Memref.whole main_arg1) (Memref.isWhole_whole _) (Memref.whole cc0_stg0_0) (Memref.isWhole_whole _)
    (Memref.whole cc0_stg1_0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10 cc0_scratch11

set_option maxRecDepth 65536 in
set_option maxHeartbeats 0 in
/-- From the state before the first operation the body runs to the state after the last. -/
theorem body_run (T : sProp 𝕄) (Q : PUnit → sProp 𝕄)
    (hQ : iprop(St m K c 60 60 60 ∗ Cm m c (scl f g) 16 16 ∗ Rest m c f g ∗ T) ⊢ Q ⟨⟩) :
    iprop(B₀ m K c ∗ PX m c 0 0 ∗ PO m c 0 0 ∗ PW m c 0 0 ∗ Win c f g ∗ Places (F := F) c ∗ T) ⊢ WP c (body (F := F)) Q := by
  refine op_dev c ?_
  refine op_x m c ?_
  refine op_x m c ?_
  refine op_x m c ?_
  refine op_x m c ?_
  refine op_w m c ?_
  refine op_sig₀ m K c ?_
  refine op_sig₁ m K c ?_
  refine op_bar m K c ?_
  refine op_xwait m K c ?_
  refine op_xld m c ?_
  refine op_xgld m c ?_
  intro _
  refine op_xgst m c ?_
  refine op_own m K c ?_
  refine op_own m K c ?_
  refine op_xwait m K c ?_
  refine op_xld m c ?_
  refine op_xgld m c ?_
  intro _
  refine op_xgst m c ?_
  refine op_own m K c ?_
  refine op_own m K c ?_
  refine op_xwait m K c ?_
  refine op_xld m c ?_
  refine op_xgld m c ?_
  intro _
  refine op_xgst m c ?_
  refine op_own m K c ?_
  refine op_own m K c ?_
  refine op_xwait m K c ?_
  refine op_xld m c ?_
  refine op_xgld m c ?_
  intro _
  refine op_xgst m c ?_
  refine op_own m K c ?_
  refine op_own m K c ?_
  refine op_wwait m K c ?_
  refine op_wld m c ?_
  refine op_w8ld m c ?_
  intro _
  refine op_w8st m c ?_
  refine op_w m c ?_
  refine op_wwait m K c ?_
  refine op_wld m c ?_
  refine op_w8ld m c ?_
  intro _
  refine op_w8st m c ?_
  refine op_smem₀ c ?_
  refine op_smem₁ c ?_
  refine (begun m K c (scl f g) f g 8 0 0 T).trans ?_
  refine op_slab_own m c ?_
  refine op_w8 m c (scl f g) ?_
  refine op_ld m c (scl f g) ?_
  intro _
  refine op_st m c (scl f g) ?_
  refine op_out m c (scl f g) ?_
  iterate 8 (refine op_recv m K c ?_; refine op_fwd m K c ?_)
  refine op_slab m K c (scl f g) ?_; refine op_w8 m c (scl f g) ?_; refine op_ld m c (scl f g) ?_; intro _; refine op_st m c (scl f g) ?_; refine op_out m c (scl f g) ?_
  refine op_slab m K c (scl f g) ?_; refine op_w8 m c (scl f g) ?_; refine op_ld m c (scl f g) ?_; intro _; refine op_st m c (scl f g) ?_; refine op_out m c (scl f g) ?_
  iterate 8 (refine op_recv m K c ?_; refine op_fwd m K c ?_)
  refine op_slab m K c (scl f g) ?_; refine op_w8 m c (scl f g) ?_; refine op_ld m c (scl f g) ?_; intro _; refine op_st m c (scl f g) ?_; refine op_out m c (scl f g) ?_
  refine op_owait m K c (scl f g) ?_
  refine op_slab m K c (scl f g) ?_; refine op_w8 m c (scl f g) ?_; refine op_ld m c (scl f g) ?_; intro _; refine op_st m c (scl f g) ?_; refine op_out m c (scl f g) ?_
  iterate 8 (refine op_recv m K c ?_; refine op_fwd m K c ?_)
  refine op_owait m K c (scl f g) ?_
  refine op_slab m K c (scl f g) ?_; refine op_w8 m c (scl f g) ?_; refine op_ld m c (scl f g) ?_; intro _; refine op_st m c (scl f g) ?_; refine op_out m c (scl f g) ?_
  refine op_owait m K c (scl f g) ?_
  refine op_slab m K c (scl f g) ?_; refine op_w8 m c (scl f g) ?_; refine op_ld m c (scl f g) ?_; intro _; refine op_st m c (scl f g) ?_; refine op_out m c (scl f g) ?_
  iterate 8 (refine op_recv m K c ?_; refine op_fwd m K c ?_)
  refine op_owait m K c (scl f g) ?_
  refine op_slab m K c (scl f g) ?_; refine op_w8 m c (scl f g) ?_; refine op_ld m c (scl f g) ?_; intro _; refine op_st m c (scl f g) ?_; refine op_out m c (scl f g) ?_
  refine op_owait m K c (scl f g) ?_
  refine op_slab m K c (scl f g) ?_; refine op_w8 m c (scl f g) ?_; refine op_ld m c (scl f g) ?_; intro _; refine op_st m c (scl f g) ?_; refine op_out m c (scl f g) ?_
  iterate 8 (refine op_recv m K c ?_; refine op_fwd m K c ?_)
  refine op_owait m K c (scl f g) ?_
  refine op_slab m K c (scl f g) ?_; refine op_w8 m c (scl f g) ?_; refine op_ld m c (scl f g) ?_; intro _; refine op_st m c (scl f g) ?_; refine op_out m c (scl f g) ?_
  refine op_owait m K c (scl f g) ?_
  refine op_slab m K c (scl f g) ?_; refine op_w8 m c (scl f g) ?_; refine op_ld m c (scl f g) ?_; intro _; refine op_st m c (scl f g) ?_; refine op_out m c (scl f g) ?_
  iterate 8 (refine op_recv m K c ?_; refine op_fwd m K c ?_)
  refine op_owait m K c (scl f g) ?_
  refine op_slab m K c (scl f g) ?_; refine op_w8 m c (scl f g) ?_; refine op_ld m c (scl f g) ?_; intro _; refine op_st m c (scl f g) ?_; refine op_out m c (scl f g) ?_
  refine op_owait m K c (scl f g) ?_
  refine op_slab m K c (scl f g) ?_; refine op_w8 m c (scl f g) ?_; refine op_ld m c (scl f g) ?_; intro _; refine op_st m c (scl f g) ?_; refine op_out m c (scl f g) ?_
  refine op_recv m K c ?_
  refine op_fwd m K c ?_
  refine op_recv m K c ?_
  refine op_recv m K c ?_
  refine op_fwd m K c ?_
  refine op_recv m K c ?_
  refine op_recv m K c ?_
  refine op_recv m K c ?_
  refine op_fwd m K c ?_
  refine op_recv m K c ?_
  refine op_recv m K c ?_
  refine op_fwd m K c ?_
  refine op_owait m K c (scl f g) ?_
  refine op_slab m K c (scl f g) ?_; refine op_w8 m c (scl f g) ?_; refine op_ld m c (scl f g) ?_; intro _; refine op_st m c (scl f g) ?_; refine op_out m c (scl f g) ?_
  refine op_owait m K c (scl f g) ?_
  refine op_slab m K c (scl f g) ?_; refine op_w8 m c (scl f g) ?_; refine op_ld m c (scl f g) ?_; intro _; refine op_st m c (scl f g) ?_; refine op_out m c (scl f g) ?_
  refine op_recv m K c ?_
  refine op_recv m K c ?_
  refine op_recv m K c ?_
  refine op_recv m K c ?_
  refine op_owait m K c (scl f g) ?_
  refine op_slab m K c (scl f g) ?_; refine op_w8 m c (scl f g) ?_; refine op_ld m c (scl f g) ?_; intro _; refine op_st m c (scl f g) ?_; refine op_out m c (scl f g) ?_
  iterate 60 (refine op_wsend m K c ?_)
  iterate 4 (refine op_owait m K c (scl f g) ?_)
  exact op_ret c hQ

end Cert.Proof.Ring
-- ==== Proof.Run.lean ====
/-
The launch: the body's obligation and the run of the whole program on the sixteen devices.
-/
module

public import proofs.«01_k».proof.Proof.Deal
public import proofs.«01_k».proof.Proof.Body
public import Idealize.ShloMosaic.Lib.Quiescent
public import Idealize.ShloMosaic.Lib.Pipeline.CollectiveSegs

@[expose] public section

noncomputable section

namespace Cert.Proof.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ) (c : Dev nD)

/-- The first scale as the body finds it, -/
def sx (c : Dev nD) : Vec F S1 .f32 := (win0_0.blk (0 : Fin 1)).view.read (Elt F) (m ((c : Thread nD τ).loc main_arg2))
/-- and the second. -/
def sw (c : Dev nD) : Vec F S1 .f32 := (win0_1.blk (0 : Fin 1)).view.read (Elt F) (m ((c : Thread nD τ).loc main_arg3))
/-- What device `c` computes. -/
def result (c : Dev nD) : Vec F S4096x512 .f32 := OUT m c (scl (sx m c) (sw m c))

/-- What device `c`'s body starts from. -/
def start (c : Dev nD) : sProp 𝕄 :=
  iprop(G' m c ∗ (cred (tallyAt (barCell c) () 2) ∗ bigSep (Finset.Ico 0 60) fun i => cred (tallyAt (rCell c i) () N)) ∗ levAts L lv
    ∗ Arrs m c (m ((c : Thread nD τ).loc main_v1)))
def Φ₀ (c : Dev nD) : sProp 𝕄 := iprop(start m c ∗ Pipeline.scopedRest cfg0.spec c)
/-- What it ends with. -/
def Φ₁ (c : Dev nD) : sProp 𝕄 :=
  iprop(Arrs m c (result m c) ∗ semVal (barCell c) 0
    ∗ Pipeline.ownSems0 (Ix := Unit) (Name := ℕ) (U := UU) (Lvl := ℕ) (Val := Elt F) (τ := τ) osem c ∗ Pipeline.scopedRest cfg0.spec c)

/-- The pipeline's proof data: the two scales' windows stay as fetched. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sx m c
    | ⟨1, _⟩ => sw m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (sx m c) ∗ stg c cc0_stg1_0 (sw m c))

theorem before_0 (d) : (dats m ρ 0 c).before (0 : Fin 2) t0_0 d = sx m c := by
  unfold Dat.before; rw [if_pos (fetch0_0 t0_0)]; rfl
theorem before_1 (d) : (dats m ρ 0 c).before (1 : Fin 2) t0_0 d = sw m c := by
  unfold Dat.before; rw [if_pos (fetch0_1 t0_0)]; rfl

/-- What the launch hands the body is what its run begins with. -/
theorem pre_enter (c : Dev nD) : bodyPre m ρ c ⊢ (iprop(∃ K, B₀ m K c ∗ PX m c 0 0 ∗ PO m c 0 0 ∗ PW m c 0 0 ∗ Win c (sx m c) (sw m c) ∗ Places (F := F) c ∗ Spare c) : sProp 𝕄) := by
  unfold bodyPre Φ₀ start G' linear payToks cellsOf
  unfold Dat.owesAt Pipeline.owesWithin
  rw [show (dats m ρ 0 c).owed t0_0.castSucc = O₀ c from rfl]
  iintro ⟨⟨⟨⟨%K, Hrec, ⟨HaB, HaS, HaR⟩, ⟨Htb, Hts⟩, HC, Hsp⟩, ⟨HcB, HcR⟩, Hlev, HA⟩, Hsc⟩, ⟨%W, %hW, HO⟩, ⟨%d0, %f0, %h0, Hf0⟩, ⟨%d1, %f1, %h1, Hf1⟩⟩
  rw [before_0] at h0
  rw [before_1] at h1
  subst h0
  subst h1
  iexists K
  iapply (enter m K c (m ((c : Thread nD τ).loc main_v1)) (sx m c) (sw m c))
  isplitl [HO]; · iexists W; iexact HO
  isplitl [Htb]; · iexact Htb
  isplitl [Hrec HaB HaS HaR Hts HcB HcR Hlev]
  · unfold Early
    isplitl [Hrec]; · iexact Hrec
    isplitl [Hlev]; · iexact Hlev
    isplitl [Hts]; · iexact Hts
    isplitl [HcR HaR]
    · unfold RecvRes
      rw [paired]
      isplitl [HcR]; · iexact HcR
      iexact HaR
    isplitl [HaS]; · iexact HaS
    isplitl [HcB]; · iexact HcB
    iexact HaB
  isplitl [HA]; · iexact HA
  isplitl [HC]; · iexact HC
  isplitl [Hsp]; · iexact Hsp
  isplitl [Hsc]; · iexact Hsc
  unfold Win
  isplitl [Hf0] <;> iassumption

/-- What its run ends with is what the launch takes back. -/
theorem leave_post (K : GSem nD τ sig → ℕ) (c : Dev nD) :
    iprop(St m K c 60 60 60 ∗ Cm m c (scl (sx m c) (sw m c)) 16 16 ∗ Rest m c (sx m c) (sw m c) ∗ Spare c) ⊢ (bodyPost m ρ c : sProp 𝕄) := by
  refine (leave m K c _ _ _).trans ?_
  unfold bodyPost Φ₁ Win result
  unfold Dat.owesAt Pipeline.owesWithin
  rw [show (dats m ρ 0 c).owed t0_0.succ = 0 from rfl]
  iintro ⟨⟨%W, HO⟩, ⟨Hf0, Hf1⟩, HA, Hb, Hos, Hsc⟩
  isplitl [HA Hb Hos Hsc]
  · isplitl [HA]; · iexact HA
    isplitl [Hb]; · iexact Hb
    isplitl [Hos]; · iexact Hos
    iexact Hsc
  isplitl [HO]
  · iexists W
    isplitr; · ipureintro; exact fun _ _ => Or.inl trivial
    iexact HO
  isplitl [Hf0]
  · iexists _; isplitr; · (ipureintro; rfl)
    iexact Hf0
  iexists _; isplitr; · (ipureintro; rfl)
  iexact Hf1

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (body (F := F)) (fun _ => bodyPost m ρ c)
  refine (pre_enter m ρ c).trans ?_
  iintro ⟨%K, H⟩
  iapply (body_run m K c (sx m c) (sw m c) (Spare c) (fun _ => bodyPost m ρ c) (leave_post m ρ K c))
  iexact H

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

/-- The launch's element: the pipeline's, the ring's, no counter. -/
def u₀ : UU := (initOf (Pipeline.cells cfgs cellOf_inj) (Pipeline.launchToks cfgs cellOf_inj), (initOf ringCells ringToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  have hU : (Pipeline.unscopedRestP Pipeline.Prefetch.none cfg0.spec c (fun b => m ((c : Thread nD τ).loc b)) : sProp 𝕄)
      = Arrs m c (m ((c : Thread nD τ).loc main_v1)) :=
    (Pipeline.unscopedRestP_none cfg0.spec c _).trans (unscopedRest0_eq c (fun b => m ((c : Thread nD τ).loc b)))
  rw [hU]
  iintro ⟨HA, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N)
      ⊢ iprop((Arrs m c (result m c) ∗ unscopedSems0 c) ∗ Pipeline.ownSems0 osem c ∗ Pipeline.scopedRest cfg0.spec c) := by
  rw [show (dats m ρ 0 c).Φ (Fin.last cfg0.N) = Φ₁ m c from rfl, unscopedSems_eq]
  unfold Φ₁
  iintro ⟨HA, HB, HS, HR⟩
  isplitl [HA HB]
  · isplitl [HA] <;> iassumption
  isplitl [HS] <;> iassumption

theorem lv_stage : ∀ (w : Fin 2) (s : Fin (cfg0.win w).nbuf), ∀ c : Dev nD, lv ((c : Thread nD τ), .dma ((cfg0.win w).sem s)) () ≤ 0 := by
  intro w s c
  fin_cases w <;> fin_cases s <;> exact Nat.le_of_eq rfl

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (lv_stage w s c) _ (by
      rcases t with ⟨_ | _, ht⟩
      · exact above_O₀ c
      · exact fun g u h => absurd h (Nat.lt_irrefl 0))

/-- What the final memory of device `c` says. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = result m c)
  ∧ ∀ sm : SemLoc sig, sm.isScoped .tc = false → s.sem ((c.tc : Thread nD τ), sm) = 0

theorem read_final (c : Dev nD) (s' : Phys nD τ sig (Elt F)) :
    iprop((Arrs m c (result m c) ∗ unscopedSems0 c) ∗ emp ∗ SI s') ⊢ (|={Set.univ}=> iprop(⌜QY m c s'.mem⌝ ∗ SI s') : sProp 𝕄) := by
  unfold Arrs
  iintro ⟨⟨⟨H0, H1, Hv⟩, Hu⟩, -, HSI⟩
  icombine HSI H0 gives %h0
  icombine HSI H1 gives %h1
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h0, Buf.eq_of_forall_mem_univ h1, Buf.eq_of_forall_mem_univ hv⟩, hs⟩
  iexact HSI

/-! ## The run -/

/-- What every final state says: the arrays, and every semaphore counter at zero. -/
def Post (r : PUnit × MemSt nD τ sig (Elt F)) : Prop :=
  (∀ c : Dev nD, r.2.mem ((c.tc : Thread nD τ).loc main_v1) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

set_option maxRecDepth 8000 in
/-- For any float values, from any memory with zero counters, every fair execution of the program on the sixteen devices
    ends, each device's result computed, its arguments as they were and every counter at zero. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(Arrs m c (result m c) ∗ unscopedSems0 c)) (Z := fun _ => iprop(emp))
    (hX := start_intro m ρ) (hin := phi0_intro m ρ) (hout := phi1_exit m ρ)
    (QY := QY m) (hY := read_final m)
    (hQ := fun _ h hs => ⟨fun c => ⟨(h c).2.2.1.2.2, (h c).2.2.1.1, (h c).2.2.1.2.1,
      ((h c).1 0).trans ((dats m ρ 0 c).arrAt_in 0 rfl _), ((h c).1 1).trans ((dats m ρ 0 c).arrAt_in 1 rfl _)⟩,
      sem_eq_zero hs fun c => (h c).2.2.2⟩)

end Cert.Proof.Ring
-- ==== Proof.Frames.lean ====
/-
The two frames of the kernel, from its run.
-/
module

public import proofs.«01_k».proof.Defs
public import proofs.«01_k».proof.Proof.Run
public import proofs.«01_k».proof.Proof.Gen.Kernel

@[expose] public section

noncomputable section

namespace Cert.Proof.Ring

open Idealize.ShloMosaic Idealize.ShloMosaic.TcCoe Idealize.SL.Sem

/-- The idealised kernel ends, its arguments as they were and every counter at zero. -/
theorem frame_ideal : Cert.quiescent_KernelIdeal := fun m ρ _ =>
  (θ_run Cert.KernelIdeal.defs _ _).mono (fun _ h => ⟨fun c => (h.1 c).2, h.2⟩) (run_main (F := Ideal) m ρ)

set_option maxRecDepth 65536 in
/-- The two programs' body tables agree at the machine's float values. -/
theorem defs₀_eq : Cert.Kernel.defs₀ (F := Bits) = Cert.KernelIdeal.defs₀ (F := Bits) := by
  refine congrArg Defs.onTc ?_
  funext ℓ a
  obtain ⟨n, hn⟩ := ℓ
  match n, hn with
  | 0, _ =>
    obtain ⟨t, s⟩ := a
    dsimp only [Cert.Kernel.defs₀.match_1, Cert.KernelIdeal.defs₀.match_1]
    rfl

/-- So do the tables with the call's pipeline. -/
theorem defs_eq : Cert.Kernel.defs (F := Bits) = Cert.KernelIdeal.defs (F := Bits) := congrArg (Pipeline.defs _) defs₀_eq

set_option maxRecDepth 65536 in
/-- The kernel at the machine's float values: the same run. -/
theorem frame_kernel : Cert.quiescent_Kernel := by
  intro m ρ _
  rw [defs_eq]
  exact (θ_run (Cert.KernelIdeal.defs (F := Bits)) (onTc (Cert.KernelIdeal.main (F := Bits))) (s₀ m ρ)).mono
    (fun _ h => ⟨fun c => (h.1 c).2, h.2⟩) (run_main (F := Bits) m ρ)

end Cert.Proof.Ring
-- ==== Proof.Values.lean ====
/-
What the kernel computes over the extended reals: its block of the reference's result.
-/
module

public import proofs.«01_k».proof.Defs
public import proofs.«01_k».proof.Proof.Run
public import proofs.«01_k».proof.Proof.Gen.ReferenceIdeal.Run
public import Idealize.ShloMosaic.Lib.Pointwise

@[expose] public section

noncomputable section

namespace Cert.Proof.Ring

open Idealize.ShloMosaic Idealize.ShloMosaic.TcCoe Idealize.SL.Sem
open Cert.KernelIdeal Cert.KernelIdeal.Gen

variable (m : (ℓ : Loc nD τ sig) → Buf (Elt Ideal) ℓ)

/-- Device `s`'s rows as a load of the gathered buffer reads them: the rows of its left operand. -/
theorem slabV_apply (s : Fin 16) (p : Fin 4) (r : Fin 64) (k : Fin 4096) (a : Fin 256) (ha : a.val = 64 * p.val + r.val) :
    slabV m s (ix4 (0 : Fin 1) p r k) = xarg m s (ix2 a k) := by
  show xarg m s (rowAt _) = _
  refine congrArg (xarg m s) ?_
  funext d
  refine Fin.ext ?_
  match d with
  | ⟨0, _⟩ => show 64 * (0 + 1 * p.val) + (0 + 1 * r.val) = a.val; omega
  | ⟨1, _⟩ => show 0 + 1 * k.val = k.val; omega

set_option maxRecDepth 16384 in
/-- A row of device `s`'s block times a column of device `c`'s right operand, times the scale. -/
theorem outV_apply (c : Dev nD) (sc : Ideal .f32) (s : Fin 16) (a : Fin 256) (b : Fin 512) :
    outV m c sc s (ix3 (0 : Fin 1) a b) = (∑ k : Fin 4096, xarg m s (ix2 a k) * warg m c (ix2 k b)) * sc := by
  unfold outV
  rw [w8V_eq]
  pointwise [k0_pay12, W8]
  exact congrArg (· * sc) (Finset.sum_congr rfl fun k _ => congrArg (· * warg m c (ix2 k b))
    (slabV_apply m s _ _ k a (Nat.div_add_mod a.val 64).symm))

/-- The reference's result as a function of its arguments. -/
def refV (x : FVec Ideal Cert.ReferenceIdeal.S4096x4096 .f32) (w : FVec Ideal Cert.ReferenceIdeal.S4096x8192 .f32)
    (f g : FVec Ideal Cert.ReferenceIdeal.S1 .f32) : FVec Ideal Cert.ReferenceIdeal.S4096x8192 .f32 :=
  mulf (Host.dotGeneral Cert.ReferenceIdeal.dot_S4096x4096_S4096x8192_S4096x8192_1_0_0_1_n_n none x w)
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf f g)))

set_option maxRecDepth 16384 in
/-- An element of it: a row of the left operand times a column of the right one, times the two scales' product. -/
theorem refV_apply (x : FVec Ideal Cert.ReferenceIdeal.S4096x4096 .f32) (w : FVec Ideal Cert.ReferenceIdeal.S4096x8192 .f32)
    (f g : FVec Ideal Cert.ReferenceIdeal.S1 .f32) (r : Fin 4096) (q : Fin 8192) :
    refV x w f g (ix2 r q) = (∑ k : Fin 4096, x (ix2 r k) * w (ix2 k q)) * (f (ix1 (0 : Fin 1)) * g (ix1 (0 : Fin 1))) := by
  pointwise [refV]

/-- The scale the kernel multiplies by is the product of the two scales. -/
theorem scale_eq (c : Dev nD) (f g : FVec Ideal S1 .f32) (hf : m ((c : Thread nD τ).loc main_arg2) = f) (hg : m ((c : Thread nD τ).loc main_arg3) = g) :
    scl (sx m c) (sw m c) = f (ix1 (0 : Fin 1)) * g (ix1 (0 : Fin 1)) := by
  have e : ∀ i j : S1.Idx, i = j := by decide
  unfold scl sx sw
  rw [hf, hg]
  show f _ * g _ = _
  exact congrArg₂ (· * ·) (congrArg f (e _ _)) (congrArg g (e _ _))

/-- When device `s` holds block `s` of the left operand's rows and of the right operand's columns, and every device holds the
    scales, device `c` computes block `c` of the reference's columns. -/
theorem result_eq (x : FVec Ideal Cert.ReferenceIdeal.S4096x4096 .f32) (w : FVec Ideal Cert.ReferenceIdeal.S4096x8192 .f32)
    (f g : FVec Ideal Cert.ReferenceIdeal.S1 .f32)
    (h : ∀ c : Dev nD, m ((c : Thread nD τ).loc main_arg0) = Layout.block ⟨2, ![256, 4096]⟩ ⟨2, ![4096, 4096]⟩ 0 16 c x
      ∧ m ((c : Thread nD τ).loc main_arg1) = Layout.block ⟨2, ![4096, 512]⟩ ⟨2, ![4096, 8192]⟩ 1 16 c w
      ∧ m ((c : Thread nD τ).loc main_arg2) = f ∧ m ((c : Thread nD τ).loc main_arg3) = g) (c : Dev nD) :
    result m c = Layout.block ⟨2, ![4096, 512]⟩ ⟨2, ![4096, 8192]⟩ 1 16 c (refV x w f g) := by
  funext j
  obtain ⟨r, q, rfl⟩ : ∃ (r : Fin 4096) (q : Fin 512), j = ix2 r q := ⟨j 0, j 1, eq_ix2 j⟩
  have hr : r.val < 4096 := r.isLt
  have hq : q.val < 512 := q.isLt
  have hc : c.val < 16 := c.isLt
  have eL : result m c (ix2 r q) = outV m c (scl (sx m c) (sw m c)) ⟨r.val / 256, by omega⟩ (ix3 (0 : Fin 1) (⟨r.val % 256, Nat.mod_lt _ (by decide)⟩ : Fin 256) q) := by
    refine congrArg (outV m c (scl (sx m c) (sw m c)) _) ?_
    funext d
    match d with
    | ⟨0, _⟩ => rfl
    | ⟨1, _⟩ => rfl
    | ⟨2, _⟩ => rfl
  have eR : Layout.block ⟨2, ![4096, 512]⟩ ⟨2, ![4096, 8192]⟩ 1 16 c (refV x w f g) (by decide) (ix2 r q)
      = refV x w f g (ix2 r (⟨c.val * 512 + q.val, by omega⟩ : Fin 8192)) := by
    refine congrArg (refV x w f g) ?_
    funext d
    refine Fin.ext ?_
    match d with
    | ⟨0, _⟩ => rfl
    | ⟨1, _⟩ => rfl
  refine eL.trans (Eq.trans ?_ eR.symm)
  rw [outV_apply, scale_eq m c f g (h c).2.2.1 (h c).2.2.2, refV_apply]
  refine congrArg (· * (f (ix1 (0 : Fin 1)) * g (ix1 (0 : Fin 1)))) (Finset.sum_congr rfl fun k _ => ?_)
  have ex : xarg m (⟨r.val / 256, by show r.val / 256 < 16; omega⟩ : Dev nD) (ix2 (⟨r.val % 256, Nat.mod_lt _ (by decide)⟩ : Fin 256) k) = x (ix2 r k) := by
    refine (congrFun (h _).1 _).trans (congrArg x ?_)
    funext d
    refine Fin.ext ?_
    match d with
    | ⟨0, _⟩ => show r.val / 256 * 256 + r.val % 256 = r.val; omega
    | ⟨1, _⟩ => rfl
  have ew : warg m c (ix2 k q) = w (ix2 k (⟨c.val * 512 + q.val, by omega⟩ : Fin 8192)) := by
    refine (congrFun (h c).2.1 _).trans (congrArg w ?_)
    funext d
    refine Fin.ext ?_
    match d with
    | ⟨0, _⟩ => rfl
    | ⟨1, _⟩ => rfl
  exact congrArg₂ (· * ·) ex ew

/-- The reference's frame: its run, and it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its block of the reference's. -/
theorem value : Cert.algebraic_KernelIdeal_ReferenceIdeal := by
  intro m ρ m' ρ' _ h
  refine ⟨refV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · exact (θ_run Cert.KernelIdeal.defs _ _).mono (fun _ hr c => ⟨(hr.1 c).1.trans (result_eq m _ _ _ _ h c), (hr.1 c).2⟩)
      (run_main (F := Ideal) m ρ)
  · exact (θ_run Cert.ReferenceIdeal.defs _ _).mono (fun _ hr => hr 0) (Cert.ReferenceIdeal.Value.run (F := Ideal) m' ρ')

end Cert.Proof.Ring
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Ring.frame_kernel, Ring.frame_ideal, Ring.frame_reference, trivial, Ring.value⟩

end Cert.Proof

end
